-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_rows_constant [hPre_rows_constant : Cert.Pre_rows_constant.Facts] (m : (ℓ : Loc Cert.MlpIdeal.nD Cert.MlpIdeal.τ Cert.MlpIdeal.sig) → Buf (Elt Ideal) ℓ) : Prop :=
  ∀ c : Dev Cert.MlpIdeal.nD,
    (Cert.Pre_rows_constant.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_rows_constant [hPre_rows_constant : Cert.Pre_rows_constant.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_rows_constant.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_rows_constant [hPre_qkv_rows_constant : Cert.Pre_qkv_rows_constant.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_rows_constant.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9)) (m ((c.tc : Thread Cert.QkvIdeal.nD Cert.QkvIdeal.τ).loc Cert.QkvIdeal.main_arg10))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_rows_constant [hPre_qkv_rows_constant : Cert.Pre_qkv_rows_constant.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_rows_constant.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9)) (m ((c.tc : Thread Cert.QkvRefIdeal.nD Cert.QkvRefIdeal.τ).loc Cert.QkvRefIdeal.main_arg10))) = (fun _ => 1#1)

def Pre_NormQuant (m : (ℓ : Loc Cert.NormQuant.nD Cert.NormQuant.τ Cert.NormQuant.sig) → Buf (Elt Bits) ℓ) : Prop :=
  True

def Pre_NormQuantIdeal (m : (ℓ : Loc Cert.NormQuantIdeal.nD Cert.NormQuantIdeal.τ Cert.NormQuantIdeal.sig) → Buf (Elt Ideal) ℓ) : Prop :=
  True

def Pre_NormQuantRefIdeal (m : (ℓ : Loc Cert.NormQuantRefIdeal.nD Cert.NormQuantRefIdeal.τ Cert.NormQuantRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpIdeal_pre_rows_constant [hMlpIdeal : Cert.MlpIdeal.Facts] [hPre_rows_constant : Cert.Pre_rows_constant.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_rows_constant m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_MlpRefIdeal_pre_rows_constant [hMlpRefIdeal : Cert.MlpRefIdeal.Facts] [hPre_rows_constant : Cert.Pre_rows_constant.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_rows_constant m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ r.2.sem = fun _ => 0)

def quiescent_QkvIdeal_pre_qkv_rows_constant [hQkvIdeal : Cert.QkvIdeal.Facts] [hPre_qkv_rows_constant : Cert.Pre_qkv_rows_constant.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_rows_constant m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_QkvRefIdeal_pre_qkv_rows_constant [hQkvRefIdeal : Cert.QkvRefIdeal.Facts] [hPre_qkv_rows_constant : Cert.Pre_qkv_rows_constant.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_rows_constant m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9)
      ∧ r.2.mem ((c.tc : Thread Cert.QkvRefIdeal.nD Cert.QkvRefIdeal.τ).loc Cert.QkvRefIdeal.main_arg10) = m ((c.tc : Thread Cert.QkvRefIdeal.nD Cert.QkvRefIdeal.τ).loc Cert.QkvRefIdeal.main_arg10))
      ∧ r.2.sem = fun _ => 0)

def quiescent_NormQuant [hNormQuant : Cert.NormQuant.Facts] : Prop :=
  ∀ (m : (ℓ : Loc Cert.NormQuant.nD Cert.NormQuant.τ Cert.NormQuant.sig) → Buf (Elt Bits) ℓ) (g : Dev Cert.NormQuant.nD → PrngReg), Pre_NormQuant m →
    θ_run (Cert.NormQuant.defs (F := Bits)) (onTc (τ := Cert.NormQuant.τ) (Cert.NormQuant.main (F := Bits))) ⟨m, fun _ => 0, g⟩ (fun r => (∀ c : Dev Cert.NormQuant.nD,
      r.2.mem ((c.tc : Thread Cert.NormQuant.nD Cert.NormQuant.τ).loc Cert.NormQuant.main_arg0) = m ((c.tc : Thread Cert.NormQuant.nD Cert.NormQuant.τ).loc Cert.NormQuant.main_arg0)
      ∧ r.2.mem ((c.tc : Thread Cert.NormQuant.nD Cert.NormQuant.τ).loc Cert.NormQuant.main_arg1) = m ((c.tc : Thread Cert.NormQuant.nD Cert.NormQuant.τ).loc Cert.NormQuant.main_arg1)
      ∧ r.2.mem ((c.tc : Thread Cert.NormQuant.nD Cert.NormQuant.τ).loc Cert.NormQuant.main_arg2) = m ((c.tc : Thread Cert.NormQuant.nD Cert.NormQuant.τ).loc Cert.NormQuant.main_arg2))
      ∧ r.2.sem = fun _ => 0)

def quiescent_NormQuantIdeal [hNormQuantIdeal : Cert.NormQuantIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg), Pre_NormQuantIdeal m →
    θ_run (Cert.NormQuantIdeal.defs (F := Ideal)) (onTc (τ := Cert.NormQuantIdeal.τ) (Cert.NormQuantIdeal.main (F := Ideal))) ⟨m, fun _ => 0, g⟩ (fun r => (∀ c : Dev Cert.NormQuantIdeal.nD,
      r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
      ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1)
      ∧ r.2.mem ((c.tc : Thread Cert.NormQuantIdeal.nD Cert.NormQuantIdeal.τ).loc Cert.NormQuantIdeal.main_arg2) = m ((c.tc : Thread Cert.NormQuantIdeal.nD Cert.NormQuantIdeal.τ).loc Cert.NormQuantIdeal.main_arg2))
      ∧ r.2.sem = fun _ => 0)

def quiescent_NormQuantRefIdeal [hNormQuantRefIdeal : Cert.NormQuantRefIdeal.Facts] : Prop :=
  ∀ (m : (ℓ : Loc Cert.NormQuantRefIdeal.nD Cert.NormQuantRefIdeal.τ Cert.NormQuantRefIdeal.sig) → Buf (Elt Ideal) ℓ) (g : Dev Cert.NormQuantRefIdeal.nD → PrngReg), Pre_NormQuantRefIdeal m →
    θ_run (Cert.NormQuantRefIdeal.defs (F := Ideal)) (onTc (τ := Cert.NormQuantRefIdeal.τ) (Cert.NormQuantRefIdeal.main (F := Ideal))) ⟨m, fun _ => 0, g⟩ (fun r => (∀ c : Dev Cert.NormQuantRefIdeal.nD,
      r.2.mem ((c.tc : Thread Cert.NormQuantRefIdeal.nD Cert.NormQuantRefIdeal.τ).loc Cert.NormQuantRefIdeal.main_arg0) = m ((c.tc : Thread Cert.NormQuantRefIdeal.nD Cert.NormQuantRefIdeal.τ).loc Cert.NormQuantRefIdeal.main_arg0)
      ∧ r.2.mem ((c.tc : Thread Cert.NormQuantRefIdeal.nD Cert.NormQuantRefIdeal.τ).loc Cert.NormQuantRefIdeal.main_arg1) = m ((c.tc : Thread Cert.NormQuantRefIdeal.nD Cert.NormQuantRefIdeal.τ).loc Cert.NormQuantRefIdeal.main_arg1)
      ∧ r.2.mem ((c.tc : Thread Cert.NormQuantRefIdeal.nD Cert.NormQuantRefIdeal.τ).loc Cert.NormQuantRefIdeal.main_arg2) = m ((c.tc : Thread Cert.NormQuantRefIdeal.nD Cert.NormQuantRefIdeal.τ).loc Cert.NormQuantRefIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def preserves_Mlp_MlpIdeal : Prop :=
  True

def preserves_Qkv_QkvIdeal : Prop :=
  True

def preserves_NormQuant_NormQuantIdeal : Prop :=
  IdealRules.named_const.Statement Cert.NormQuantIdeal.κ "inv_6144" .f32 0x392AAAAB#32 ((1 / 6144 : ℝ) : EReal)
  ∧ IdealRules.named_const.Statement Cert.NormQuantIdeal.κ "inv_448" .f32 0x3B124925#32 ((1 / 448 : ℝ) : EReal)

def preserves_Attention_AttentionIdeal : Prop :=
  IdealRules.named_const.Statement Cert.AttentionIdeal.κ "to_log2" .f32 0x3E0293EE#32 (((Real.sqrt 128)⁻¹ * (Real.log 2)⁻¹ : ℝ) : EReal)
  ∧ IdealRules.named_const.Statement Cert.AttentionIdeal.κ "from_log2" .f32 0x40FAF233#32 ((((Real.sqrt 128)⁻¹ * (Real.log 2)⁻¹)⁻¹ : ℝ) : EReal)

def algebraic_MlpIdeal_MlpRefIdeal_pre_rows_constant [hMlpIdeal : Cert.MlpIdeal.Facts] [hMlpRefIdeal : Cert.MlpRefIdeal.Facts] [hPre_rows_constant : Cert.Pre_rows_constant.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_rows_constant m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v2_0)) (v1 : (c : Dev Cert.MlpIdeal.nD) → Buf (Elt Ideal) ((c.tc : Thread Cert.MlpIdeal.nD Cert.MlpIdeal.τ).loc Cert.MlpIdeal.main_v2_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_0) = v0 c
          ∧ r.2.mem ((c.tc : Thread Cert.MlpIdeal.nD Cert.MlpIdeal.τ).loc Cert.MlpIdeal.main_v2_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v7_0) = v0 c
          ∧ r.2.mem ((c.tc : Thread Cert.MlpRefIdeal.nD Cert.MlpRefIdeal.τ).loc Cert.MlpRefIdeal.main_v7_1) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def algebraic_QkvIdeal_QkvRefIdeal_pre_qkv_rows_constant [hQkvIdeal : Cert.QkvIdeal.Facts] [hQkvRefIdeal : Cert.QkvRefIdeal.Facts] [hPre_qkv_rows_constant : Cert.Pre_qkv_rows_constant.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_rows_constant m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)
      ∧ m' ((c.tc : Thread Cert.QkvRefIdeal.nD Cert.QkvRefIdeal.τ).loc Cert.QkvRefIdeal.main_arg10) = m ((c.tc : Thread Cert.QkvIdeal.nD Cert.QkvIdeal.τ).loc Cert.QkvIdeal.main_arg10)) →
    ∃ (v0 : (c : Dev Cert.QkvIdeal.nD) → Buf (Elt Ideal) ((c.tc : Thread Cert.QkvIdeal.nD Cert.QkvIdeal.τ).loc Cert.QkvIdeal.main_v15)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v15) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v9) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9)
          ∧ r.2.mem ((c.tc : Thread Cert.QkvRefIdeal.nD Cert.QkvRefIdeal.τ).loc Cert.QkvRefIdeal.main_arg10) = m' ((c.tc : Thread Cert.QkvRefIdeal.nD Cert.QkvRefIdeal.τ).loc Cert.QkvRefIdeal.main_arg10))

def algebraic_NormQuantIdeal_NormQuantRefIdeal [hNormQuantIdeal : Cert.NormQuantIdeal.Facts] [hNormQuantRefIdeal : Cert.NormQuantRefIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg)
    (m' : (ℓ : Loc Cert.NormQuantRefIdeal.nD Cert.NormQuantRefIdeal.τ Cert.NormQuantRefIdeal.sig) → Buf (Elt Ideal) ℓ) (g' : Dev Cert.NormQuantRefIdeal.nD → PrngReg), Pre_NormQuantIdeal m →
    (∀ c : Dev Cert.NormQuantIdeal.nD,
      m' ((c.tc : Thread Cert.NormQuantRefIdeal.nD Cert.NormQuantRefIdeal.τ).loc Cert.NormQuantRefIdeal.main_arg0) = m ((c.tc : Thread Cert.NormQuantIdeal.nD Cert.NormQuantIdeal.τ).loc Cert.NormQuantIdeal.main_arg0)
      ∧ m' ((c.tc : Thread Cert.NormQuantRefIdeal.nD Cert.NormQuantRefIdeal.τ).loc Cert.NormQuantRefIdeal.main_arg1) = m ((c.tc : Thread Cert.NormQuantIdeal.nD Cert.NormQuantIdeal.τ).loc Cert.NormQuantIdeal.main_arg1)
      ∧ m' ((c.tc : Thread Cert.NormQuantRefIdeal.nD Cert.NormQuantRefIdeal.τ).loc Cert.NormQuantRefIdeal.main_arg2) = m ((c.tc : Thread Cert.NormQuantIdeal.nD Cert.NormQuantIdeal.τ).loc Cert.NormQuantIdeal.main_arg2)) →
    ∃ (v0 : (c : Dev Cert.NormQuantIdeal.nD) → Buf (Elt Ideal) ((c.tc : Thread Cert.NormQuantIdeal.nD Cert.NormQuantIdeal.τ).loc Cert.NormQuantIdeal.main_v1_0)) (v1 : (c : Dev Cert.NormQuantIdeal.nD) → Buf (Elt Ideal) ((c.tc : Thread Cert.NormQuantIdeal.nD Cert.NormQuantIdeal.τ).loc Cert.NormQuantIdeal.main_v1_1)) (v2 : (c : Dev Cert.NormQuantIdeal.nD) → Buf (Elt Ideal) ((c.tc : Thread Cert.NormQuantIdeal.nD Cert.NormQuantIdeal.τ).loc Cert.NormQuantIdeal.main_v1_2)),
      θ_run (Cert.NormQuantIdeal.defs (F := Ideal)) (onTc (τ := Cert.NormQuantIdeal.τ) (Cert.NormQuantIdeal.main (F := Ideal))) ⟨m, fun _ => 0, g⟩ (fun r => ∀ c : Dev Cert.NormQuantIdeal.nD,
          r.2.mem ((c.tc : Thread Cert.NormQuantIdeal.nD Cert.NormQuantIdeal.τ).loc Cert.NormQuantIdeal.main_v1_0) = v0 c
          ∧ r.2.mem ((c.tc : Thread Cert.NormQuantIdeal.nD Cert.NormQuantIdeal.τ).loc Cert.NormQuantIdeal.main_v1_1) = v1 c
          ∧ r.2.mem ((c.tc : Thread Cert.NormQuantIdeal.nD Cert.NormQuantIdeal.τ).loc Cert.NormQuantIdeal.main_v1_2) = v2 c
          ∧ r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
          ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1)
          ∧ r.2.mem ((c.tc : Thread Cert.NormQuantIdeal.nD Cert.NormQuantIdeal.τ).loc Cert.NormQuantIdeal.main_arg2) = m ((c.tc : Thread Cert.NormQuantIdeal.nD Cert.NormQuantIdeal.τ).loc Cert.NormQuantIdeal.main_arg2))
      ∧ θ_run (Cert.NormQuantRefIdeal.defs (F := Ideal)) (onTc (τ := Cert.NormQuantRefIdeal.τ) (Cert.NormQuantRefIdeal.main (F := Ideal))) ⟨m', fun _ => 0, g'⟩ (fun r => ∀ c : Dev Cert.NormQuantRefIdeal.nD,
          r.2.mem ((c.tc : Thread Cert.NormQuantRefIdeal.nD Cert.NormQuantRefIdeal.τ).loc Cert.NormQuantRefIdeal.main_v2_0) = v0 c
          ∧ r.2.mem ((c.tc : Thread Cert.NormQuantRefIdeal.nD Cert.NormQuantRefIdeal.τ).loc Cert.NormQuantRefIdeal.main_v2_1) = v1 c
          ∧ r.2.mem ((c.tc : Thread Cert.NormQuantRefIdeal.nD Cert.NormQuantRefIdeal.τ).loc Cert.NormQuantRefIdeal.main_v2_2) = v2 c
          ∧ r.2.mem ((c.tc : Thread Cert.NormQuantRefIdeal.nD Cert.NormQuantRefIdeal.τ).loc Cert.NormQuantRefIdeal.main_arg0) = m' ((c.tc : Thread Cert.NormQuantRefIdeal.nD Cert.NormQuantRefIdeal.τ).loc Cert.NormQuantRefIdeal.main_arg0)
          ∧ r.2.mem ((c.tc : Thread Cert.NormQuantRefIdeal.nD Cert.NormQuantRefIdeal.τ).loc Cert.NormQuantRefIdeal.main_arg1) = m' ((c.tc : Thread Cert.NormQuantRefIdeal.nD Cert.NormQuantRefIdeal.τ).loc Cert.NormQuantRefIdeal.main_arg1)
          ∧ r.2.mem ((c.tc : Thread Cert.NormQuantRefIdeal.nD Cert.NormQuantRefIdeal.τ).loc Cert.NormQuantRefIdeal.main_arg2) = m' ((c.tc : Thread Cert.NormQuantRefIdeal.nD Cert.NormQuantRefIdeal.τ).loc Cert.NormQuantRefIdeal.main_arg2))

def Claim : Prop :=
  ∃ (hMlp : Cert.Mlp.Facts) (hMlpIdeal : Cert.MlpIdeal.Facts) (hMlpRefIdeal : Cert.MlpRefIdeal.Facts) (hQkv : Cert.Qkv.Facts) (hQkvIdeal : Cert.QkvIdeal.Facts) (hQkvRefIdeal : Cert.QkvRefIdeal.Facts) (hNormQuant : Cert.NormQuant.Facts) (hNormQuantIdeal : Cert.NormQuantIdeal.Facts) (hNormQuantRefIdeal : Cert.NormQuantRefIdeal.Facts) (hAttention : Cert.Attention.Facts) (hAttentionIdeal : Cert.AttentionIdeal.Facts) (hPre_rows_constant : Cert.Pre_rows_constant.Facts) (hPre_qkv_rows_constant : Cert.Pre_qkv_rows_constant.Facts),
    quiescent_Mlp (hMlp := hMlp)
    ∧ quiescent_MlpIdeal (hMlpIdeal := hMlpIdeal)
    ∧ quiescent_MlpIdeal_pre_rows_constant (hMlpIdeal := hMlpIdeal) (hPre_rows_constant := hPre_rows_constant)
    ∧ quiescent_MlpRefIdeal (hMlpRefIdeal := hMlpRefIdeal)
    ∧ quiescent_MlpRefIdeal_pre_rows_constant (hMlpRefIdeal := hMlpRefIdeal) (hPre_rows_constant := hPre_rows_constant)
    ∧ quiescent_Qkv (hQkv := hQkv)
    ∧ quiescent_QkvIdeal (hQkvIdeal := hQkvIdeal)
    ∧ quiescent_QkvIdeal_pre_qkv_rows_constant (hQkvIdeal := hQkvIdeal) (hPre_qkv_rows_constant := hPre_qkv_rows_constant)
    ∧ quiescent_QkvRefIdeal (hQkvRefIdeal := hQkvRefIdeal)
    ∧ quiescent_QkvRefIdeal_pre_qkv_rows_constant (hQkvRefIdeal := hQkvRefIdeal) (hPre_qkv_rows_constant := hPre_qkv_rows_constant)
    ∧ quiescent_NormQuant (hNormQuant := hNormQuant)
    ∧ quiescent_NormQuantIdeal (hNormQuantIdeal := hNormQuantIdeal)
    ∧ quiescent_NormQuantRefIdeal (hNormQuantRefIdeal := hNormQuantRefIdeal)
    ∧ quiescent_Attention (hAttention := hAttention)
    ∧ quiescent_AttentionIdeal (hAttentionIdeal := hAttentionIdeal)
    ∧ preserves_Mlp_MlpIdeal
    ∧ preserves_Qkv_QkvIdeal
    ∧ preserves_NormQuant_NormQuantIdeal
    ∧ preserves_Attention_AttentionIdeal
    ∧ algebraic_MlpIdeal_MlpRefIdeal_pre_rows_constant (hMlpIdeal := hMlpIdeal) (hMlpRefIdeal := hMlpRefIdeal) (hPre_rows_constant := hPre_rows_constant)
    ∧ algebraic_QkvIdeal_QkvRefIdeal_pre_qkv_rows_constant (hQkvIdeal := hQkvIdeal) (hQkvRefIdeal := hQkvRefIdeal) (hPre_qkv_rows_constant := hPre_qkv_rows_constant)
    ∧ algebraic_NormQuantIdeal_NormQuantRefIdeal (hNormQuantIdeal := hNormQuantIdeal) (hNormQuantRefIdeal := hNormQuantRefIdeal)
-- ==== Pre_qkv_rows_constant.lean ====
abbrev S4096x6144 : Shape := ⟨2, ![4096, 6144]⟩
abbrev S36864x6144 : Shape := ⟨2, ![36864, 6144]⟩
abbrev S4096x128 : Shape := ⟨2, ![4096, 128]⟩
abbrev S36864 : Shape := ⟨1, ![36864]⟩
abbrev S4096x32 : Shape := ⟨2, ![4096, 32]⟩
abbrev S36864x32 : Shape := ⟨2, ![36864, 32]⟩
abbrev S128 : Shape := ⟨1, ![128]⟩
abbrev S2x2048x64 : Shape := ⟨3, ![2, 2048, 64]⟩
abbrev S4096x1 : Shape := ⟨2, ![4096, 1]⟩

class Facts : Prop where
  slices_S4096x128_S4096x1_0_0 : S4096x128.Slices ![0, 0] S4096x1
  bcast_S4096x1_S4096x128_0_1 : S4096x1.BroadcastsInDim S4096x128 (![0, 1] : Fin 2 → Fin S4096x128.rank)

variable [Facts]

def fn {F : FTy → Type} [FloatOps F] (main_arg0 : FVec F S4096x6144 .fp8e4m3) (main_arg1 : FVec F S36864x6144 .fp8e4m3) (main_arg2 : FVec F S4096x128 .f32) (main_arg3 : FVec F S36864 .f32) (main_arg4 : FVec F S36864 .f32) (main_arg5 : FVec F S4096x32 .bf16) (main_arg6 : FVec F S36864x32 .bf16) (main_arg7 : FVec F S128 .f32) (main_arg8 : FVec F S128 .f32) (main_arg9 : FVec F S2x2048x64 .f32) (main_arg10 : FVec F S2x2048x64 .f32) : IVec S4096x128 1 :=
  let main_v0 : FVec F S4096x1 .f32 := (extractStridedSlice S4096x1 ![0, 0] · slices_S4096x128_S4096x1_0_0) main_arg2
  let main_v1 : FVec F S4096x128 .f32 := broadcastInDim S4096x128 ![0, 1] bcast_S4096x1_S4096x128_0_1 main_v0
  let main_v2 : IVec S4096x128 1 := cmpf .oeq main_arg2 main_v1
  main_v2
-- ==== Pre_rows_constant.lean ====
abbrev S4096x6144 : Shape := ⟨2, ![4096, 6144]⟩
abbrev S36864x6144 : Shape := ⟨2, ![36864, 6144]⟩
abbrev S4096x128 : Shape := ⟨2, ![4096, 128]⟩
abbrev S36864 : Shape := ⟨1, ![36864]⟩
abbrev S4096x32 : Shape := ⟨2, ![4096, 32]⟩
abbrev S36864x32 : Shape := ⟨2, ![36864, 32]⟩
abbrev S4096x1 : Shape := ⟨2, ![4096, 1]⟩

class Facts : Prop where
  slices_S4096x128_S4096x1_0_0 : S4096x128.Slices ![0, 0] S4096x1
  bcast_S4096x1_S4096x128_0_1 : S4096x1.BroadcastsInDim S4096x128 (![0, 1] : Fin 2 → Fin S4096x128.rank)

variable [Facts]

def fn {F : FTy → Type} [FloatOps F] (main_arg0 : FVec F S4096x6144 .fp8e4m3) (main_arg1 : FVec F S36864x6144 .fp8e4m3) (main_arg2 : FVec F S4096x128 .f32) (main_arg3 : FVec F S36864 .f32) (main_arg4 : FVec F S36864 .f32) (main_arg5 : FVec F S4096x32 .bf16) (main_arg6 : FVec F S36864x32 .bf16) : IVec S4096x128 1 :=
  let main_v0 : FVec F S4096x1 .f32 := (extractStridedSlice S4096x1 ![0, 0] · slices_S4096x128_S4096x1_0_0) main_arg2
  let main_v1 : FVec F S4096x128 .f32 := broadcastInDim S4096x128 ![0, 1] bcast_S4096x1_S4096x128_0_1 main_v0
  let main_v2 : IVec S4096x128 1 := cmpf .oeq main_arg2 main_v1
  main_v2
-- ==== Mlp.lean ====
abbrev S4096x6144 : Shape := ⟨2, ![4096, 6144]⟩
abbrev S36864x6144 : Shape := ⟨2, ![36864, 6144]⟩
abbrev S4096x128 : Shape := ⟨2, ![4096, 128]⟩
abbrev S36864 : Shape := ⟨1, ![36864]⟩
abbrev S4096x32 : Shape := ⟨2, ![4096, 32]⟩
abbrev S36864x32 : Shape := ⟨2, ![36864, 32]⟩
abbrev S1x36864 : Shape := ⟨2, ![1, 36864]⟩
abbrev S4096x18432 : Shape := ⟨2, ![4096, 18432]⟩
abbrev S512x6144 : Shape := ⟨2, ![512, 6144]⟩
abbrev S1x512 : Shape := ⟨2, ![1, 512]⟩
abbrev S512x32 : Shape := ⟨2, ![512, 32]⟩
abbrev S4096x512 : Shape := ⟨2, ![4096, 512]⟩
abbrev S512x128 : Shape := ⟨2, ![512, 128]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4096x6144, .fp8e4m3⟩
  | .hbm, ⟨1, _⟩ => ⟨S36864x6144, .fp8e4m3⟩
  | .hbm, ⟨2, _⟩ => ⟨S4096x128, .f32⟩
  | .hbm, ⟨3, _⟩ => ⟨S36864, .f32⟩
  | .hbm, ⟨4, _⟩ => ⟨S36864, .f32⟩
  | .hbm, ⟨5, _⟩ => ⟨S4096x32, .bf16⟩
  | .hbm, ⟨6, _⟩ => ⟨S36864x32, .bf16⟩
  | .hbm, ⟨7, _⟩ => ⟨S1x36864, .f32⟩
  | .hbm, ⟨8, _⟩ => ⟨S1x36864, .f32⟩
  | .hbm, ⟨9, _⟩ => ⟨S4096x18432, .f32⟩
  | .hbm, ⟨10, _⟩ => ⟨S4096x128, .f32⟩
  | .local _ .vmem, ⟨0, _⟩ => ⟨S4096x6144, .fp8e4m3⟩
  | .local _ .vmem, ⟨1, _⟩ => ⟨S512x6144, .fp8e4m3⟩
  | .local _ .vmem, ⟨2, _⟩ => ⟨S512x6144, .fp8e4m3⟩
  | .local _ .vmem, ⟨3, _⟩ => ⟨S4096x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4096x32, .bf16⟩
  | .local _ .vmem, ⟨9, _⟩ => ⟨S512x32, .bf16⟩
  | .local _ .vmem, ⟨10, _⟩ => ⟨S512x32, .bf16⟩
  | .local _ .vmem, ⟨11, _⟩ => ⟨S4096x512, .f32⟩
  | .local _ .vmem, ⟨12, _⟩ => ⟨S4096x512, .f32⟩
  | .local _ .vmem, ⟨13, _⟩ => ⟨S4096x128, .f32⟩
  | _, _ => ⟨S4096x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c36_i32 : BitVec 32 := 36#32
  let v0 : BitVec 32 := Scalar.addi arg0 c36_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpRefIdeal.lean ====
abbrev S4096x6144 : Shape := ⟨2, ![4096, 6144]⟩
abbrev S36864x6144 : Shape := ⟨2, ![36864, 6144]⟩
abbrev S4096x128 : Shape := ⟨2, ![4096, 128]⟩
abbrev S36864 : Shape := ⟨1, ![36864]⟩
abbrev S4096x32 : Shape := ⟨2, ![4096, 32]⟩
abbrev S36864x32 : Shape := ⟨2, ![36864, 32]⟩
abbrev S18432x6144 : Shape := ⟨2, ![18432, 6144]⟩
abbrev S4096x1 : Shape := ⟨2, ![4096, 1]⟩
abbrev S18432 : Shape := ⟨1, ![18432]⟩
abbrev S1x18432 : Shape := ⟨2, ![1, 18432]⟩
abbrev S18432x32 : Shape := ⟨2, ![18432, 32]⟩
abbrev S4096x18432 : Shape := ⟨2, ![4096, 18432]⟩
abbrev S4096x144x128 : Shape := ⟨3, ![4096, 144, 128]⟩

abbrev nBuf : Space → Nat
  | .hbm => 16
  | .vmem => 9
  | .smem => 0
  | _ => 0

abbrev bufTy : (tb : Table) → Fin (tcTables nBuf tb) → BufTy
  | .hbm, ⟨0, _⟩ => ⟨S4096x6144, .fp8e4m3⟩
  | .hbm, ⟨1, _⟩ => ⟨S36864x6144, .fp8e4m3⟩
  | .hbm, ⟨2, _⟩ => ⟨S4096x128, .f32⟩
  | .hbm, ⟨3, _⟩ => ⟨S36864, .f32⟩
  | .hbm, ⟨4, _⟩ => ⟨S36864, .f32⟩
  | .hbm, ⟨5, _⟩ => ⟨S4096x32, .bf16⟩
  | .hbm, ⟨6, _⟩ => ⟨S36864x32, .bf16⟩
  | .hbm, ⟨7, _⟩ => ⟨S18432x6144, .fp8e4m3⟩
  | .hbm, ⟨8, _⟩ => ⟨S4096x1, .f32⟩
  | .hbm, ⟨9, _⟩ => ⟨S18432, .f32⟩
  | .hbm, ⟨10, _⟩ => ⟨S1x18432, .f32⟩
  | .hbm, ⟨11, _⟩ => ⟨S18432, .f32⟩
  | .hbm, ⟨12, _⟩ => ⟨S1x18432, .f32⟩
  | .hbm, ⟨13, _⟩ => ⟨S18432x32, .bf16⟩
  | .hbm, ⟨14, _⟩ => ⟨S4096x18432, .f32⟩
  | .hbm, ⟨15, _⟩ => ⟨S4096x128, .f32⟩
  | .local _ .vmem, ⟨0, _⟩ => ⟨S4096x6144, .fp8e4m3⟩
  | .local _ .vmem, ⟨1, _⟩ => ⟨S18432x6144, .fp8e4m3⟩
  | .local _ .vmem, ⟨2, _⟩ => ⟨S4096x1, .f32⟩
  | .local _ .vmem, ⟨3, _⟩ => ⟨S1x18432, .f32⟩
  | .local _ .vmem, ⟨4, _⟩ => ⟨S1x18432, .f32⟩
  | .local _ .vmem, ⟨5, _⟩ => ⟨S4096x32, .bf16⟩
  | .local _ .vmem, ⟨6, _⟩ => ⟨S18432x32, .bf16⟩
  | .local _ .vmem, ⟨7, _⟩ => ⟨S4096x18432, .f32⟩
  | .local _ .vmem, ⟨8, _⟩ => ⟨S4096x128, .f32⟩
  | _, _ => ⟨S4096x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S4096x6144 : Shape := ⟨2, ![4096, 6144]⟩
abbrev S36864x6144 : Shape := ⟨2, ![36864, 6144]⟩
abbrev S4096x128 : Shape := ⟨2, ![4096, 128]⟩
abbrev S36864 : Shape := ⟨1, ![36864]⟩
abbrev S4096x32 : Shape := ⟨2, ![4096, 32]⟩
abbrev S36864x32 : Shape := ⟨2, ![36864, 32]⟩
abbrev S128 : Shape := ⟨1, ![128]⟩
abbrev S2x2048x64 : Shape := ⟨3, ![2, 2048, 64]⟩
abbrev S4096x64 : Shape := ⟨2, ![4096, 64]⟩
abbrev S4096x64x2 : Shape := ⟨3, ![4096, 64, 2]⟩
abbrev S4096x64x1 : Shape := ⟨3, ![4096, 64, 1]⟩
abbrev S1x128 : Shape := ⟨2, ![1, 128]⟩
abbrev S2x128 : Shape := ⟨2, ![2, 128]⟩
abbrev S2x1x128 : Shape := ⟨3, ![2, 1, 128]⟩
abbrev S1x36864 : Shape := ⟨2, ![1, 36864]⟩
abbrev S4096x18432 : Shape := ⟨2, ![4096, 18432]⟩
abbrev S512x6144 : Shape := ⟨2, ![512, 6144]⟩
abbrev S1x512 : Shape := ⟨2, ![1, 512]⟩
abbrev S512x32 : Shape := ⟨2, ![512, 32]⟩
abbrev S1x1x128 : Shape := ⟨3, ![1, 1, 128]⟩
abbrev S4096x512 : Shape := ⟨2, ![4096, 512]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S4096x6144, .fp8e4m3⟩
  | .hbm, ⟨1, _⟩ => ⟨S36864x6144, .fp8e4m3⟩
  | .hbm, ⟨2, _⟩ => ⟨S4096x128, .f32⟩
  | .hbm, ⟨3, _⟩ => ⟨S36864, .f32⟩
  | .hbm, ⟨4, _⟩ => ⟨S36864, .f32⟩
  | .hbm, ⟨5, _⟩ => ⟨S4096x32, .bf16⟩
  | .hbm, ⟨6, _⟩ => ⟨S36864x32, .bf16⟩
  | .hbm, ⟨7, _⟩ => ⟨S128, .f32⟩
  | .hbm, ⟨8, _⟩ => ⟨S128, .f32⟩
  | .hbm, ⟨9, _⟩ => ⟨S2x2048x64, .f32⟩
  | .hbm, ⟨10, _⟩ => ⟨S2x2048x64, .f32⟩
  | .hbm, ⟨11, _⟩ => ⟨S4096x64, .f32⟩
  | .hbm, ⟨12, _⟩ => ⟨S4096x64x2, .f32⟩
  | .hbm, ⟨13, _⟩ => ⟨S4096x128, .f32⟩
  | .hbm, ⟨14, _⟩ => ⟨S4096x64, .f32⟩
  | .hbm, ⟨15, _⟩ => ⟨S4096x64, .f32⟩
  | .hbm, ⟨16, _⟩ => ⟨S4096x64x1, .f32⟩
  | .hbm, ⟨17, _⟩ => ⟨S4096x64x1, .f32⟩
  | .hbm, ⟨18, _⟩ => ⟨S4096x64x2, .f32⟩
  | .hbm, ⟨19, _⟩ => ⟨S4096x128, .f32⟩
  | .hbm, ⟨20, _⟩ => ⟨S1x128, .f32⟩
  | .hbm, ⟨21, _⟩ => ⟨S1x128, .f32⟩
  | .hbm, ⟨22, _⟩ => ⟨S2x128, .f32⟩
  | .hbm, ⟨23, _⟩ => ⟨S2x1x128, .f32⟩
  | .hbm, ⟨24, _⟩ => ⟨S1x36864, .f32⟩
  | .hbm, ⟨25, _⟩ => ⟨S1x36864, .f32⟩
  | .hbm, ⟨26, _⟩ => ⟨S4096x18432, .bf16⟩
  | .local _ .vmem, ⟨0, _⟩ => ⟨S4096x6144, .fp8e4m3⟩
  | .local _ .vmem, ⟨1, _⟩ => ⟨S512x6144, .fp8e4m3⟩
  | .local _ .vmem, ⟨2, _⟩ => ⟨S512x6144, .fp8e4m3⟩
  | .local _ .vmem, ⟨3, _⟩ => ⟨S4096x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S4096x32, .bf16⟩
  | .local _ .vmem, ⟨9, _⟩ => ⟨S512x32, .bf16⟩
  | .local _ .vmem, ⟨10, _⟩ => ⟨S512x32, .bf16⟩
  | .local _ .vmem, ⟨11, _⟩ => ⟨S1x1x128, .f32⟩
  | .local _ .vmem, ⟨12, _⟩ => ⟨S1x1x128, .f32⟩
  | .local _ .vmem, ⟨13, _⟩ => ⟨S4096x128, .f32⟩
  | .local _ .vmem, ⟨14, _⟩ => ⟨S4096x128, .f32⟩
  | .local _ .vmem, ⟨15, _⟩ => ⟨S4096x512, .bf16⟩
  | .local _ .vmem, ⟨16, _⟩ => ⟨S4096x512, .bf16⟩
  | _, _ => ⟨S4096x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c24_i32 : BitVec 32 := 24#32
  let v0 : BitVec 1 := Scalar.cmpi .sge arg0 c24_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c24_i32 : BitVec 32 := 24#32
  let v0 : BitVec 1 := Scalar.cmpi .sge arg0 c24_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4096x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S4096x6144 : Shape := ⟨2, ![4096, 6144]⟩
abbrev S36864x6144 : Shape := ⟨2, ![36864, 6144]⟩
abbrev S4096x128 : Shape := ⟨2, ![4096, 128]⟩
abbrev S36864 : Shape := ⟨1, ![36864]⟩
abbrev S4096x32 : Shape := ⟨2, ![4096, 32]⟩
abbrev S36864x32 : Shape := ⟨2, ![36864, 32]⟩
abbrev S128 : Shape := ⟨1, ![128]⟩
abbrev S2x2048x64 : Shape := ⟨3, ![2, 2048, 64]⟩
abbrev S18432x6144 : Shape := ⟨2, ![18432, 6144]⟩
abbrev S4096x1 : Shape := ⟨2, ![4096, 1]⟩
abbrev S18432 : Shape := ⟨1, ![18432]⟩
abbrev S1x18432 : Shape := ⟨2, ![1, 18432]⟩
abbrev S18432x32 : Shape := ⟨2, ![18432, 32]⟩
abbrev S4096x64 : Shape := ⟨2, ![4096, 64]⟩
abbrev S4096x18432 : Shape := ⟨2, ![4096, 18432]⟩
abbrev S4096x48x128 : Shape := ⟨3, ![4096, 48, 128]⟩
abbrev S4096x48 : Shape := ⟨2, ![4096, 48]⟩
abbrev S4096x48x1 : Shape := ⟨3, ![4096, 48, 1]⟩
abbrev S1x1x128 : Shape := ⟨3, ![1, 1, 128]⟩
abbrev S4096x48x64x2 : Shape := ⟨4, ![4096, 48, 64, 2]⟩
abbrev S4096x48x64x1 : Shape := ⟨4, ![4096, 48, 64, 1]⟩
abbrev S4096x48x64 : Shape := ⟨3, ![4096, 48, 64]⟩
abbrev S4096x1x64 : Shape := ⟨3, ![4096, 1, 64]⟩

abbrev nBuf : Space → Nat
  | .hbm => 21
  | .vmem => 12
  | .smem => 0
  | _ => 0

abbrev bufTy : (tb : Table) → Fin (tcTables nBuf tb) → BufTy
  | .hbm, ⟨0, _⟩ => ⟨S4096x6144, .fp8e4m3⟩
  | .hbm, ⟨1, _⟩ => ⟨S36864x6144, .fp8e4m3⟩
  | .hbm, ⟨2, _⟩ => ⟨S4096x128, .f32⟩
  | .hbm, ⟨3, _⟩ => ⟨S36864, .f32⟩
  | .hbm, ⟨4, _⟩ => ⟨S36864, .f32⟩
  | .hbm, ⟨5, _⟩ => ⟨S4096x32, .bf16⟩
  | .hbm, ⟨6, _⟩ => ⟨S36864x32, .bf16⟩
  | .hbm, ⟨7, _⟩ => ⟨S128, .f32⟩
  | .hbm, ⟨8, _⟩ => ⟨S128, .f32⟩
  | .hbm, ⟨9, _⟩ => ⟨S2x2048x64, .f32⟩
  | .hbm, ⟨10, _⟩ => ⟨S2x2048x64, .f32⟩
  | .hbm, ⟨11, _⟩ => ⟨S18432x6144, .fp8e4m3⟩
  | .hbm, ⟨12, _⟩ => ⟨S4096x1, .f32⟩
  | .hbm, ⟨13, _⟩ => ⟨S18432, .f32⟩
  | .hbm, ⟨14, _⟩ => ⟨S1x18432, .f32⟩
  | .hbm, ⟨15, _⟩ => ⟨S18432, .f32⟩
  | .hbm, ⟨16, _⟩ => ⟨S1x18432, .f32⟩
  | .hbm, ⟨17, _⟩ => ⟨S18432x32, .bf16⟩
  | .hbm, ⟨18, _⟩ => ⟨S4096x64, .f32⟩
  | .hbm, ⟨19, _⟩ => ⟨S4096x64, .f32⟩
  | .hbm, ⟨20, _⟩ => ⟨S4096x18432, .bf16⟩
  | .local _ .vmem, ⟨0, _⟩ => ⟨S4096x6144, .fp8e4m3⟩
  | .local _ .vmem, ⟨1, _⟩ => ⟨S18432x6144, .fp8e4m3⟩
  | .local _ .vmem, ⟨2, _⟩ => ⟨S4096x1, .f32⟩
  | .local _ .vmem, ⟨3, _⟩ => ⟨S1x18432, .f32⟩
  | .local _ .vmem, ⟨4, _⟩ => ⟨S1x18432, .f32⟩
  | .local _ .vmem, ⟨5, _⟩ => ⟨S4096x32, .bf16⟩
  | .local _ .vmem, ⟨6, _⟩ => ⟨S18432x32, .bf16⟩
  | .local _ .vmem, ⟨7, _⟩ => ⟨S128, .f32⟩
  | .local _ .vmem, ⟨8, _⟩ => ⟨S128, .f32⟩
  | .local _ .vmem, ⟨9, _⟩ => ⟨S4096x64, .f32⟩
  | .local _ .vmem, ⟨10, _⟩ => ⟨S4096x64, .f32⟩
  | .local _ .vmem, ⟨11, _⟩ => ⟨S4096x18432, .bf16⟩
  | _, _ => ⟨S4096x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4096x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x6144 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x18432 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== NormQuant.lean ====
abbrev S2x2048x6144 : Shape := ⟨3, ![2, 2048, 6144]⟩
abbrev S2x1x18432 : Shape := ⟨3, ![2, 1, 18432]⟩
abbrev S32x6144 : Shape := ⟨2, ![32, 6144]⟩
abbrev S4096x6144 : Shape := ⟨2, ![4096, 6144]⟩
abbrev S4096x128 : Shape := ⟨2, ![4096, 128]⟩
abbrev S4096x32 : Shape := ⟨2, ![4096, 32]⟩
abbrev S128x6144 : Shape := ⟨2, ![128, 6144]⟩
abbrev S1x1x6144 : Shape := ⟨3, ![1, 1, 6144]⟩
abbrev S128x128 : Shape := ⟨2, ![128, 128]⟩
abbrev S128x32 : Shape := ⟨2, ![128, 32]⟩
abbrev S8x128 : Shape := ⟨2, ![8, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x6144, .bf16⟩
  | .hbm, ⟨1, _⟩ => ⟨S2x1x18432, .f32⟩
  | .hbm, ⟨2, _⟩ => ⟨S32x6144, .bf16⟩
  | .hbm, ⟨3, _⟩ => ⟨S4096x6144, .bf16⟩
  | .hbm, ⟨4, _⟩ => ⟨S4096x6144, .fp8e4m3⟩
  | .hbm, ⟨5, _⟩ => ⟨S4096x128, .f32⟩
  | .hbm, ⟨6, _⟩ => ⟨S4096x32, .bf16⟩
  | .local _ .vmem, ⟨0, _⟩ => ⟨S128x6144, .bf16⟩
  | .local _ .vmem, ⟨1, _⟩ => ⟨S128x6144, .bf16⟩
  | .local _ .vmem, ⟨2, _⟩ => ⟨S1x1x6144, .f32⟩
  | .local _ .vmem, ⟨3, _⟩ => ⟨S1x1x6144, .f32⟩
  | .local _ .vmem, ⟨4, _⟩ => ⟨S1x1x6144, .f32⟩
  | .local _ .vmem, ⟨5, _⟩ => ⟨S1x1x6144, .f32⟩
  | .local _ .vmem, ⟨6, _⟩ => ⟨S32x6144, .bf16⟩
  | .local _ .vmem, ⟨7, _⟩ => ⟨S128x6144, .fp8e4m3⟩
  | .local _ .vmem, ⟨8, _⟩ => ⟨S128x6144, .fp8e4m3⟩
  | .local _ .vmem, ⟨9, _⟩ => ⟨S128x128, .f32⟩
  | .local _ .vmem, ⟨10, _⟩ => ⟨S128x128, .f32⟩
  | .local _ .vmem, ⟨11, _⟩ => ⟨S128x32, .bf16⟩
  | .local _ .vmem, ⟨12, _⟩ => ⟨S128x32, .bf16⟩
  | .local _ .vmem, ⟨13, _⟩ => ⟨S128x6144, .f32⟩
  | _, _ => ⟨S2x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x6144 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormQuantIdeal.lean ====
variable {F : FTy → Type} [FloatOps F] [Named F]
def κ : String → Option EReal := fun
  | "inv_448" => some ((1 / 448 : ℝ) : EReal)
  | "inv_6144" => some ((1 / 6144 : ℝ) : EReal)
  | _ => none
-- ==== NormQuantRefIdeal.lean ====
abbrev S2x2048x6144 : Shape := ⟨3, ![2, 2048, 6144]⟩
abbrev S2x1x18432 : Shape := ⟨3, ![2, 1, 18432]⟩
abbrev S32x6144 : Shape := ⟨2, ![32, 6144]⟩
abbrev S2x1x6144 : Shape := ⟨3, ![2, 1, 6144]⟩
abbrev S4096x6144 : Shape := ⟨2, ![4096, 6144]⟩
abbrev S4096x128 : Shape := ⟨2, ![4096, 128]⟩
abbrev S4096x32 : Shape := ⟨2, ![4096, 32]⟩
abbrev S2x2048 : Shape := ⟨2, ![2, 2048]⟩
abbrev S2x2048x1 : Shape := ⟨3, ![2, 2048, 1]⟩
abbrev S2x2048x32 : Shape := ⟨3, ![2, 2048, 32]⟩
abbrev S2x2048x128 : Shape := ⟨3, ![2, 2048, 128]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x6144, .bf16⟩
  | .hbm, ⟨1, _⟩ => ⟨S2x1x18432, .f32⟩
  | .hbm, ⟨2, _⟩ => ⟨S32x6144, .bf16⟩
  | .hbm, ⟨3, _⟩ => ⟨S2x1x6144, .f32⟩
  | .hbm, ⟨4, _⟩ => ⟨S2x1x6144, .f32⟩
  | .hbm, ⟨5, _⟩ => ⟨S4096x6144, .fp8e4m3⟩
  | .hbm, ⟨6, _⟩ => ⟨S4096x128, .f32⟩
  | .hbm, ⟨7, _⟩ => ⟨S4096x32, .bf16⟩
  | .local _ .vmem, ⟨0, _⟩ => ⟨S2x2048x6144, .bf16⟩
  | .local _ .vmem, ⟨1, _⟩ => ⟨S2x1x6144, .f32⟩
  | .local _ .vmem, ⟨2, _⟩ => ⟨S2x1x6144, .f32⟩
  | .local _ .vmem, ⟨3, _⟩ => ⟨S32x6144, .bf16⟩
  | .local _ .vmem, ⟨4, _⟩ => ⟨S4096x6144, .fp8e4m3⟩
  | .local _ .vmem, ⟨5, _⟩ => ⟨S4096x128, .f32⟩
  | .local _ .vmem, ⟨6, _⟩ => ⟨S4096x32, .bf16⟩
  | _, _ => ⟨S2x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2048x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Attention.lean ====
abbrev S4096x18432 : Shape := ⟨2, ![4096, 18432]⟩
abbrev S4096x6144 : Shape := ⟨2, ![4096, 6144]⟩
abbrev S4096x128 : Shape := ⟨2, ![4096, 128]⟩
abbrev S2048x128 : Shape := ⟨2, ![2048, 128]⟩
abbrev S2x2048x512 : Shape := ⟨3, ![2, 2048, 512]⟩
abbrev S128x2048 : Shape := ⟨2, ![128, 2048]⟩
abbrev S512x128 : Shape := ⟨2, ![512, 128]⟩
abbrev S512x512 : Shape := ⟨2, ![512, 512]⟩
abbrev S1x512x512 : Shape := ⟨3, ![1, 512, 512]⟩
abbrev S64x8x512 : Shape := ⟨3, ![64, 8, 512]⟩
abbrev S8x512 : Shape := ⟨2, ![8, 512]⟩
abbrev S512 : Shape := ⟨1, ![512]⟩
abbrev S1x512 : Shape := ⟨2, ![1, 512]⟩
abbrev S128x512 : Shape := ⟨2, ![128, 512]⟩

abbrev nBuf : Space → Nat
  | .hbm => 3
  | .vmem => 11
  | .smem => 0
  | _ => 0

abbrev bufTy : (tb : Table) → Fin (tcTables nBuf tb) → BufTy
  | .hbm, ⟨0, _⟩ => ⟨S4096x18432, .bf16⟩
  | .hbm, ⟨1, _⟩ => ⟨S4096x6144, .f32⟩
  | .hbm, ⟨2, _⟩ => ⟨S4096x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2x2048x512, .f32⟩
  | _, _ => ⟨S4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttentionIdeal.lean ====
variable {F : FTy → Type} [FloatOps F] [Named F]
def κ : String → Option EReal := fun
  | "from_log2" => some ((((Real.sqrt 128)⁻¹ * (Real.log 2)⁻¹)⁻¹ : ℝ) : EReal)
  | "to_log2" => some (((Real.sqrt 128)⁻¹ * (Real.log 2)⁻¹ : ℝ) : EReal)
  | _ => none
-- ==== Proof.Spec.lean ====
/- The mathematics the references state, entry by entry, over the extended reals. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Spec

/-- The float constant one half, as the programs print it. -/
abbrev half : EReal := Ideal.ofBits .f32 0x3F000000#32

/-- One entry of the first linear layer, row `r` of the activations against row `n` of the weights: the product of the
    codes, times the row scale read in lane `l`, times the column scale, plus the bias, plus half the low-rank product. -/
def lin (X : FVec Ideal ⟨2, ![4096, 6144]⟩ .fp8e4m3) (W : FVec Ideal ⟨2, ![36864, 6144]⟩ .fp8e4m3)
    (S : FVec Ideal ⟨2, ![4096, 128]⟩ .f32) (C B : FVec Ideal ⟨1, ![36864]⟩ .f32)
    (T : FVec Ideal ⟨2, ![4096, 32]⟩ .bf16) (L : FVec Ideal ⟨2, ![36864, 32]⟩ .bf16)
    (r : Fin 4096) (n : Fin 36864) (l : Fin 128) : EReal :=
  (∑ k : Fin 6144, X (ix2 r k) * W (ix2 n k)) * S (ix2 r l) * C (ix1 n) + B (ix1 n)
    + half * ∑ k : Fin 32, T (ix2 r k) * L (ix2 n k)

/-- The lane the row scale is read in does not matter where the two lanes agree. -/
theorem lin_lane (X : FVec Ideal ⟨2, ![4096, 6144]⟩ .fp8e4m3) (W : FVec Ideal ⟨2, ![36864, 6144]⟩ .fp8e4m3)
    (S : FVec Ideal ⟨2, ![4096, 128]⟩ .f32) (C B : FVec Ideal ⟨1, ![36864]⟩ .f32)
    (T : FVec Ideal ⟨2, ![4096, 32]⟩ .bf16) (L : FVec Ideal ⟨2, ![36864, 32]⟩ .bf16)
    (r : Fin 4096) (n : Fin 36864) (l l' : Fin 128) (h : S (ix2 r l) = S (ix2 r l')) : lin X W S C B T L r n l = lin X W S C B T L r n l' := by
  rw [lin, lin, h]

/-- The tanh form of the GELU, with the constants as printed. -/
def gelu (z : EReal) : EReal :=
  half * z * (1 + Ideal.tanh (Ideal.ofBits .f32 0x3F4C422A#32 * (z + Ideal.ofBits .f32 0x3D372713#32 * (z * z * z))))

/-- A head's entry after the RMS norm and the gain: times the reciprocal root of the mean square. -/
def normed (h g : Fin 128 → EReal) (q : Fin 128) : EReal :=
  h q * Ideal.rsqrt (Ideal.div (∑ x : Fin 128, h x * h x) (Ideal.ofBits .f32 0x43000000#32) + Ideal.ofBits .f32 0x358637BD#32) * g q

/-- A head's entry after the rotary embedding: pair `q / 2` turned by its cosine and sine. -/
def turned (h : Fin 128 → EReal) (c s : Fin 64 → EReal) (q : Fin 128) : EReal :=
  if q.val % 2 = 0 then c ⟨q / 2, by omega⟩ * h q - s ⟨q / 2, by omega⟩ * h ⟨(q + 1) % 128, Nat.mod_lt _ (by decide)⟩
  else s ⟨q / 2, by omega⟩ * h ⟨q - 1, by omega⟩ + c ⟨q / 2, by omega⟩ * h q

/-- The query, key and value columns made from the linear layer's row `z`: query and key heads are normalised, scaled by their
    gain and turned; value columns are the layer's own. -/
def qkv (z : Fin 18432 → EReal) (gq gk : Fin 128 → EReal) (c s : Fin 64 → EReal) (n : Fin 18432) : EReal :=
  if n.val < 12288 then turned (normed (fun x => z ⟨n / 128 * 128 + x, by omega⟩) (if n.val < 6144 then gq else gk)) c s ⟨n % 128, Nat.mod_lt _ (by decide)⟩
  else z n

/-- Equal rows, gains, cosines and sines make equal columns. -/
theorem qkv_congr {z z' : Fin 18432 → EReal} {gq gq' gk gk' : Fin 128 → EReal} {c c' s s' : Fin 64 → EReal} (hz : z = z') (hq : gq = gq') (hk : gk = gk')
    (hc : c = c') (hs : s = s') (n : Fin 18432) : qkv z gq gk c s n = qkv z' gq' gk' c' s' n := by
  rw [hz, hq, hk, hc, hs]

/-- A slice of rows from the first on, read at an entry. -/
theorem slice_rows {α : Type} {M N K : ℕ} (x : (⟨2, ![N, K]⟩ : Shape).Idx → α) (h : (⟨2, ![N, K]⟩ : Shape).Slices ![0, 0] ⟨2, ![M, K]⟩)
    (p : Fin M) (k : Fin K) (hp : p.val < N) : extractStridedSlice ⟨2, ![M, K]⟩ ![0, 0] x h (ix2 p k) = x (ix2 ⟨p, hp⟩ k) := by
  refine congrArg x (funext fun a => ?_)
  match a with
  | 0 => exact Fin.ext (Nat.zero_add _)
  | 1 => exact Fin.ext (Nat.zero_add _)

/-- The same for a vector. -/
theorem slice_vec {α : Type} {M N : ℕ} (x : (⟨1, ![N]⟩ : Shape).Idx → α) (h : (⟨1, ![N]⟩ : Shape).Slices ![0] ⟨1, ![M]⟩)
    (p : Fin M) (hp : p.val < N) : extractStridedSlice ⟨1, ![M]⟩ ![0] x h (ix1 p) = x (ix1 ⟨p, hp⟩) := by
  refine congrArg x (funext fun a => ?_)
  match a with
  | 0 => exact Fin.ext (Nat.zero_add _)

end Cert.Spec

end
-- ==== Proof.MlpTile.lean ====
/- What one row tile of the linear1_mlp kernel computes: all eight tiles are one function of the vectors they load. -/
module
public import proofs.«01_k».proof.Proof.Gen.MlpIdeal.Frame
public import proofs.«01_k».proof.Proof.Spec
public import Idealize.ShloMosaic.Lib.Pipeline.ReadBack
@[expose] public section
set_option maxRecDepth 16384
noncomputable section
open Idealize.ShloMosaic Idealize.ShloMosaic.TcCoe Idealize.SL.Sem
open scoped BigOperators
namespace Cert.MlpIdeal.RefValue
open Cert.MlpIdeal Cert.MlpIdeal.Gen

variable (v0 v1 : FVec Ideal S512x6144 .fp8e4m3) (v2 : FVec Ideal S512x128 .f32) (v3 v4 : FVec Ideal S1x512 .f32)
  (v5 v6 : FVec Ideal S512x32 .bf16) (a : FVec Ideal S512x128 .f32)

/-! Every row tile is the same function of what it loads. -/

theorem tile7 : k0_pay1 (k0_pay33 v0 v1 v2 v3 v4 v5 v6) (k0_pay34 v0 v1 v2 v3 v4 v5 v6) (FloatOps.ofBits (F := Ideal) .f32 1061962282#32)
    = k0_pay18 (F := Ideal) v0 v1 v2 v3 v4 v5 v6 := rfl
theorem tile6 : k0_pay29 v0 v1 v2 v3 v4 v5 v6 = k0_pay18 (F := Ideal) v0 v1 v2 v3 v4 v5 v6 := rfl
theorem tile5 : k0_pay27 v0 v1 v2 (k0_pay25 v3) (k0_pay26 v4) v5 v6 = k0_pay18 (F := Ideal) v0 v1 v2 v3 v4 v5 v6 := rfl
theorem tile4 : k0_pay23 (k0_pay20 v0 v1 v2 v3 v4 v5 v6) (k0_pay21 v0 v1 v2 v3 v4 v5 v6) (k0_pay22 v0 v1 v2 v3 v4 v5 v6)
    = k0_pay18 (F := Ideal) v0 v1 v2 v3 v4 v5 v6 := rfl
theorem tile2 : k0_pay16 v0 v1 v2 (k0_pay14 v3) (k0_pay15 v4) v5 v6 = k0_pay18 (F := Ideal) v0 v1 v2 v3 v4 v5 v6 := rfl
theorem tile1 : k0_pay12 (k0_pay9 v5 v6) (k0_pay10 v0 v1 v2 v3) (k0_pay11 v4) = k0_pay18 (F := Ideal) v0 v1 v2 v3 v4 v5 v6 := rfl
theorem tile0 : k0_pay7 (k0_pay5 v0 v1 v2 v3 v4 v5 v6) (k0_pay6 v0 v1 v2 v3 v4 v5 v6) = k0_pay18 (F := Ideal) v0 v1 v2 v3 v4 v5 v6 := rfl

/-! So is every tile's step of the running maximum. -/

theorem max7 : k0_pay2 (k0_pay33 v0 v1 v2 v3 v4 v5 v6) (k0_pay34 v0 v1 v2 v3 v4 v5 v6) (FloatOps.ofBits (F := Ideal) .f32 1061962282#32) a
    = k0_pay19 (k0_pay18 (F := Ideal) v0 v1 v2 v3 v4 v5 v6) a := rfl
theorem max6 : k0_pay31 (k0_pay29 v0 v1 v2 v3 v4 v5 v6) (k0_pay30 v0 v1 v2 v3 v4 v5 v6 a)
    = k0_pay19 (k0_pay18 (F := Ideal) v0 v1 v2 v3 v4 v5 v6) a := rfl
theorem max5 : k0_pay28 v0 v1 v2 (k0_pay25 v3) (k0_pay26 v4) v5 v6 a = k0_pay19 (k0_pay18 (F := Ideal) v0 v1 v2 v3 v4 v5 v6) a := rfl
theorem max4 : k0_pay24 (k0_pay20 v0 v1 v2 v3 v4 v5 v6) (k0_pay21 v0 v1 v2 v3 v4 v5 v6) (k0_pay22 v0 v1 v2 v3 v4 v5 v6) a
    = k0_pay19 (k0_pay18 (F := Ideal) v0 v1 v2 v3 v4 v5 v6) a := rfl
theorem max2 : k0_pay17 v0 v1 v2 (k0_pay14 v3) (k0_pay15 v4) v5 v6 a = k0_pay19 (k0_pay18 (F := Ideal) v0 v1 v2 v3 v4 v5 v6) a := rfl
theorem max1 : k0_pay13 (k0_pay9 v5 v6) (k0_pay10 v0 v1 v2 v3) (k0_pay11 v4) a = k0_pay19 (k0_pay18 (F := Ideal) v0 v1 v2 v3 v4 v5 v6) a := rfl
theorem max0 : k0_pay8 (k0_pay5 v0 v1 v2 v3 v4 v5 v6) (k0_pay6 v0 v1 v2 v3 v4 v5 v6) a
    = k0_pay19 (k0_pay18 (F := Ideal) v0 v1 v2 v3 v4 v5 v6) a := rfl

/-- One entry of a linear tile, in terms of the vectors a row tile is computed from. -/
def tileLin (p q : Fin 512) : EReal :=
  (∑ k : Fin 6144, v0 (ix2 p k) * v1 (ix2 q k)) * v2 (ix2 p ⟨q % 128, Nat.mod_lt _ (by decide)⟩) * v3 (ix2 0 q) + v4 (ix2 0 q)
    + Spec.half * ∑ k : Fin 32, v5 (ix2 p k) * v6 (ix2 q k)

/-- A row tile's entry: the GELU of the linear entry. -/
theorem tile_at (p q : Fin 512) : k0_pay18 (F := Ideal) v0 v1 v2 v3 v4 v5 v6 (ix2 p q) = Spec.gelu (tileLin v0 v1 v2 v3 v4 v5 v6 p q) := by
  have hrow : concatenate S512x512 1 [⟨S512x128, v2⟩, ⟨S512x128, v2⟩, ⟨S512x128, v2⟩, ⟨S512x128, v2⟩] concatenates_S512x128_S512x128_S512x128_S512x128_S512x512_d1 (ix2 p q)
      = v2 (ix2 p ⟨q % 128, Nat.mod_lt _ (by decide)⟩) := by
    pointwise
    blk_point []
  pointwise [k0_pay18, Spec.gelu, tileLin, hrow]

/-- One step of the running lane maximum over the four lane groups of a tile. -/
theorem max_at (g : FVec Ideal S512x512 .f32) (p : Fin 512) (l : Fin 128) : k0_pay19 (F := Ideal) g a (ix2 p l)
    = max (max (max (max (a (ix2 p l)) (FloatOps.absf (g (ix2 p ⟨l, by omega⟩)))) (FloatOps.absf (g (ix2 p ⟨128 + l, by omega⟩))))
        (FloatOps.absf (g (ix2 p ⟨256 + l, by omega⟩)))) (FloatOps.absf (g (ix2 p ⟨384 + l, by omega⟩))) := by
  pointwise [k0_pay19]

/-- The running maximum starts from zero. -/
theorem zero_at (j) : k0_pay3 (F := Ideal) j = 0 := by pointwise [k0_pay3]

end Cert.MlpIdeal.RefValue

end
-- ==== Proof.MlpBlock.lean ====
/- What one grid point of the linear1_mlp kernel leaves in its two output blocks. -/
module
public import proofs.«01_k».proof.Proof.Gen.MlpIdeal.Frame
public import proofs.«01_k».proof.Proof.Spec
public import proofs.«01_k».proof.Proof.MlpTile
public import Idealize.ShloMosaic.Lib.Pipeline.ReadBack
@[expose] public section
set_option maxRecDepth 16384
noncomputable section
open Idealize.ShloMosaic Idealize.ShloMosaic.TcCoe Idealize.SL.Sem
open scoped BigOperators
namespace Cert.MlpIdeal.RefValue
open Cert.MlpIdeal Cert.MlpIdeal.Gen
variable (m : (ℓ : Loc nD τ sig) → Buf (Elt Ideal) ℓ)

/-- Every window's block index at every grid point. -/
theorem idx : ∀ t : Fin cfg0.N, win0_0.index t = ![0, 0] ∧ win0_1.index t = ![t.val + 36, 0] ∧ win0_2.index t = ![0, 0]
    ∧ win0_3.index t = ![0, t.val + 36] ∧ win0_4.index t = ![0, t.val + 36] ∧ win0_5.index t = ![0, 0]
    ∧ win0_6.index t = ![t.val + 36, 0] ∧ win0_7.index t = ![0, t.val] ∧ win0_8.index t = ![0, 0] :=
  (by decide +kernel : ∀ t : Fin grid0.N, _)

/-- The linear layer over the launch's arrays, the row scale read in the lane the kernel reads. -/
abbrev linAt (c : Dev nD) (r : Fin 4096) (n : Fin 18432) : EReal :=
  Spec.lin (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r ⟨18432 + n, by omega⟩ ⟨n % 128, Nat.mod_lt _ (by decide)⟩

/-- A row tile of point `t`, loaded from the staged blocks, is that entry of the linear layer. -/
theorem lin_at (c : Dev nD) (t : Fin cfg0.N) (v0 : FVec Ideal S512x6144 .fp8e4m3) (v2 : FVec Ideal S512x128 .f32) (v5 : FVec Ideal S512x32 .bf16)
    (o : ℕ) (ho : o + 512 ≤ 4096)
    (h0 : ∀ (p : Fin 512) k, v0 (ix2 p k) = iblk m c 0 t (ix2 (⟨o + p, by omega⟩ : Fin 4096) k : S4096x6144.Idx))
    (h2 : ∀ (p : Fin 512) k, v2 (ix2 p k) = iblk m c 2 t (ix2 (⟨o + p, by omega⟩ : Fin 4096) k : S4096x128.Idx))
    (h5 : ∀ (p : Fin 512) k, v5 (ix2 p k) = iblk m c 5 t (ix2 (⟨o + p, by omega⟩ : Fin 4096) k : S4096x32.Idx))
    (p q : Fin 512) (r : Fin 4096) (n : Fin 18432) (hr : (r : ℕ) = o + p) (hn : (n : ℕ) = t.val * 512 + q) :
    tileLin v0 (iblk m c 1 t) v2 (iblk m c 3 t) (iblk m c 4 t) v5 (iblk m c 6 t) p q = linAt m c r n := by
  simp only [tileLin, linAt, Spec.lin, h0, h2, h5]
  blk_point [iblk, V, idx t]

/-- One row tile, stored at rows `o` and on: the GELU of the linear layer. -/
theorem piece (c : Dev nD) (t : Fin cfg0.N) (v0 : FVec Ideal S512x6144 .fp8e4m3) (v2 : FVec Ideal S512x128 .f32) (v5 : FVec Ideal S512x32 .bf16)
    (o : ℕ) (ho : o + 512 ≤ 4096)
    (h0 : ∀ (p : Fin 512) k, v0 (ix2 p k) = iblk m c 0 t (ix2 (⟨o + p, by omega⟩ : Fin 4096) k : S4096x6144.Idx))
    (h2 : ∀ (p : Fin 512) k, v2 (ix2 p k) = iblk m c 2 t (ix2 (⟨o + p, by omega⟩ : Fin 4096) k : S4096x128.Idx))
    (h5 : ∀ (p : Fin 512) k, v5 (ix2 p k) = iblk m c 5 t (ix2 (⟨o + p, by omega⟩ : Fin 4096) k : S4096x32.Idx))
    (x : S512x512.Idx) (r : Fin 4096) (n : Fin 18432) (hr : (r : ℕ) = o + x 0) (hn : (n : ℕ) = t.val * 512 + x 1) :
    k0_pay18 (F := Ideal) v0 (iblk m c 1 t) v2 (iblk m c 3 t) (iblk m c 4 t) v5 (iblk m c 6 t) x = Spec.gelu (linAt m c r n) := by
  rw [eq_ix2 x]
  exact (tile_at ..).trans (congrArg _ (lin_at m c t v0 v2 v5 o ho h0 h2 h5 (x 0) (x 1) r n hr hn))

/-- The grid has 36 points. -/
theorem lt_36 (t : Fin cfg0.N) : t.val < 36 := lt_of_lt_of_eq t.isLt (show cfg0.N = 36 from N_0)

/-- The column of the layer that column `q` of point `t`'s block is. -/
theorem col_lt (t : Fin cfg0.N) (q : Fin 512) : t.val * 512 + q < 18432 := by have := lt_36 t; omega

/-- After point `t` its first output block holds the GELU of the linear layer over the block's columns. -/
theorem out7 (c : Dev nD) (t : Fin cfg0.N) (y : S4096x512.Idx) :
    (outsAt0 m c t.val t.isLt).1 y = Spec.gelu (linAt m c (y 0) ⟨t.val * 512 + y 1, col_lt t (y 1)⟩) := by
  by_cases h : t.val % 36 = 0
  · rw [outsAt0_A m c t h]
    frame_out
    simp only [tile0, tile1, tile2, tile4, tile5, tile6, tile7]
    canon_tiles x h
    case piece0 => exact piece m c t _ _ _ 3584 (by decide) (fun p k => by pointwise) (fun p k => by pointwise) (fun p k => by pointwise) x _ _ h0 (congrArg (t.val * 512 + ·) h1)
    case piece1 => exact piece m c t _ _ _ 3072 (by decide) (fun p k => by pointwise) (fun p k => by pointwise) (fun p k => by pointwise) x _ _ h0 (congrArg (t.val * 512 + ·) h1)
    case piece2 => exact piece m c t _ _ _ 2560 (by decide) (fun p k => by pointwise) (fun p k => by pointwise) (fun p k => by pointwise) x _ _ h0 (congrArg (t.val * 512 + ·) h1)
    case piece3 => exact piece m c t _ _ _ 2048 (by decide) (fun p k => by pointwise) (fun p k => by pointwise) (fun p k => by pointwise) x _ _ h0 (congrArg (t.val * 512 + ·) h1)
    case piece4 => exact piece m c t _ _ _ 1536 (by decide) (fun p k => by pointwise) (fun p k => by pointwise) (fun p k => by pointwise) x _ _ h0 (congrArg (t.val * 512 + ·) h1)
    case piece5 => exact piece m c t _ _ _ 1024 (by decide) (fun p k => by pointwise) (fun p k => by pointwise) (fun p k => by pointwise) x _ _ h0 (congrArg (t.val * 512 + ·) h1)
    case piece6 => exact piece m c t _ _ _ 512 (by decide) (fun p k => by pointwise) (fun p k => by pointwise) (fun p k => by pointwise) x _ _ h0 (congrArg (t.val * 512 + ·) h1)
    case piece7 => exact piece m c t _ _ _ 0 (by decide) (fun p k => by pointwise) (fun p k => by pointwise) (fun p k => by pointwise) x _ _ (h0.trans (Nat.zero_add _).symm) (congrArg (t.val * 512 + ·) h1)
  · rw [outsAt0_B m c t h]
    frame_out
    simp only [tile0, tile1, tile2, tile4, tile5, tile6, tile7]
    canon_tiles x h
    case piece0 => exact piece m c t _ _ _ 3584 (by decide) (fun p k => by pointwise) (fun p k => by pointwise) (fun p k => by pointwise) x _ _ h0 (congrArg (t.val * 512 + ·) h1)
    case piece1 => exact piece m c t _ _ _ 3072 (by decide) (fun p k => by pointwise) (fun p k => by pointwise) (fun p k => by pointwise) x _ _ h0 (congrArg (t.val * 512 + ·) h1)
    case piece2 => exact piece m c t _ _ _ 2560 (by decide) (fun p k => by pointwise) (fun p k => by pointwise) (fun p k => by pointwise) x _ _ h0 (congrArg (t.val * 512 + ·) h1)
    case piece3 => exact piece m c t _ _ _ 2048 (by decide) (fun p k => by pointwise) (fun p k => by pointwise) (fun p k => by pointwise) x _ _ h0 (congrArg (t.val * 512 + ·) h1)
    case piece4 => exact piece m c t _ _ _ 1536 (by decide) (fun p k => by pointwise) (fun p k => by pointwise) (fun p k => by pointwise) x _ _ h0 (congrArg (t.val * 512 + ·) h1)
    case piece5 => exact piece m c t _ _ _ 1024 (by decide) (fun p k => by pointwise) (fun p k => by pointwise) (fun p k => by pointwise) x _ _ h0 (congrArg (t.val * 512 + ·) h1)
    case piece6 => exact piece m c t _ _ _ 512 (by decide) (fun p k => by pointwise) (fun p k => by pointwise) (fun p k => by pointwise) x _ _ h0 (congrArg (t.val * 512 + ·) h1)
    case piece7 => exact piece m c t _ _ _ 0 (by decide) (fun p k => by pointwise) (fun p k => by pointwise) (fun p k => by pointwise) x _ _ (h0.trans (Nat.zero_add _).symm) (congrArg (t.val * 512 + ·) h1)

/-- The magnitude of the hidden value at row `r`, column `n`. -/
abbrev mag (c : Dev nD) (r : Fin 4096) (n : Fin 18432) : EReal := FloatOps.absf (F := Ideal) (φ := .f32) (Spec.gelu (linAt m c r n))

/-- One point's step of the running lane maximum: over the four lane groups of its 512 columns. -/
def step (c : Dev nD) (t : Fin cfg0.N) (a : EReal) (r : Fin 4096) (l : Fin 128) : EReal :=
  max (max (max (max a (mag m c r ⟨t.val * 512 + l, by have := lt_36 t; omega⟩)) (mag m c r ⟨t.val * 512 + (128 + l), by have := lt_36 t; omega⟩))
    (mag m c r ⟨t.val * 512 + (256 + l), by have := lt_36 t; omega⟩)) (mag m c r ⟨t.val * 512 + (384 + l), by have := lt_36 t; omega⟩)

/-- One row tile of the running maximum, stored at rows `o` and on. -/
theorem pieceMax (c : Dev nD) (t : Fin cfg0.N) (v0 : FVec Ideal S512x6144 .fp8e4m3) (v2 : FVec Ideal S512x128 .f32) (v5 : FVec Ideal S512x32 .bf16)
    (a : FVec Ideal S512x128 .f32) (prev : FVec Ideal S4096x128 .f32) (o : ℕ) (ho : o + 512 ≤ 4096)
    (h0 : ∀ (p : Fin 512) k, v0 (ix2 p k) = iblk m c 0 t (ix2 (⟨o + p, by omega⟩ : Fin 4096) k : S4096x6144.Idx))
    (h2 : ∀ (p : Fin 512) k, v2 (ix2 p k) = iblk m c 2 t (ix2 (⟨o + p, by omega⟩ : Fin 4096) k : S4096x128.Idx))
    (h5 : ∀ (p : Fin 512) k, v5 (ix2 p k) = iblk m c 5 t (ix2 (⟨o + p, by omega⟩ : Fin 4096) k : S4096x32.Idx))
    (ha : ∀ (p : Fin 512) (k : Fin 128), a (ix2 p k) = prev (ix2 (⟨o + p, by omega⟩ : Fin 4096) k))
    (x : S512x128.Idx) (y : S4096x128.Idx) (hr : (y 0 : ℕ) = o + x 0) (hl : (y 1 : ℕ) = x 1) :
    k0_pay19 (F := Ideal) (k0_pay18 (F := Ideal) v0 (iblk m c 1 t) v2 (iblk m c 3 t) (iblk m c 4 t) v5 (iblk m c 6 t)) a x
      = step m c t (prev y) (y 0) (y 1) := by
  have e0 : y 0 = (⟨o + (x 0 : Fin 512), by have : (x 0 : ℕ) < 512 := (x 0).isLt; omega⟩ : Fin 4096) := Fin.ext hr
  have e1 : y 1 = x 1 := Fin.ext hl
  have ep : a (ix2 (x 0) (x 1)) = prev y := by
    rw [eq_ix2 y, e0, e1]; exact ha (x 0) (x 1)
  have hg : ∀ (q : Fin 512) (n : Fin 18432), (n : ℕ) = t.val * 512 + q →
      k0_pay18 (F := Ideal) v0 (iblk m c 1 t) v2 (iblk m c 3 t) (iblk m c 4 t) v5 (iblk m c 6 t) (ix2 (x 0) q) = Spec.gelu (linAt m c (y 0) n) :=
    fun q n hn => piece m c t v0 v2 v5 o ho h0 h2 h5 (ix2 (x 0) q) (y 0) n hr hn
  rw [eq_ix2 x, max_at a _ (x 0) (x 1)]
  refine congrArg₂ max (congrArg₂ max (congrArg₂ max (congrArg₂ max ep ?_) ?_) ?_) ?_ <;> refine congrArg _ (hg _ _ ?_) <;> rw [e1]

/-- The first point's running maximum: its own step, from zero. -/
theorem out8_A (c : Dev nD) (t : Fin cfg0.N) (h : t.val % 36 = 0) (y : S4096x128.Idx) :
    (outsAt0 m c t.val t.isLt).2 y = step m c t 0 (y 0) (y 1) := by
  rw [outsAt0_A m c t h]
  frame_open
  simp (disch := decide) only [↓ View.readCov_skip, ↓ View.readCov_cons_toLoadRect, ↓ View.readCov_fill]
  frame_out
  simp only [max0, max1, max2, max4, max5, max6, max7]
  refine View.canon_append_of_piecesOf (Val := Elt Ideal) (e := .f32) (fun y : S4096x128.Idx => step m c t 0 (y 0) (y 1)) [_] [_, _, _, _, _, _, _, _]
    ⟨?_, ?_, ?_, ?_, ?_, ?_, ?_, ?_, trivial⟩ y ?_
  · exact fun x => Eq.trans (pieceMax m c t _ _ _ _ k0_pay3 3584 (by decide) (fun p k => by pointwise) (fun p k => by pointwise) (fun p k => by pointwise) (fun p k => by pointwise) x _ (congrArg (3584 + ·) (Nat.one_mul _)) ((Nat.zero_add _).trans (Nat.one_mul _))) (congrArg (fun z => step m c t z _ _) (zero_at _))
  · exact fun x => Eq.trans (pieceMax m c t _ _ _ _ k0_pay3 3072 (by decide) (fun p k => by pointwise) (fun p k => by pointwise) (fun p k => by pointwise) (fun p k => by pointwise) x _ (congrArg (3072 + ·) (Nat.one_mul _)) ((Nat.zero_add _).trans (Nat.one_mul _))) (congrArg (fun z => step m c t z _ _) (zero_at _))
  · exact fun x => Eq.trans (pieceMax m c t _ _ _ _ k0_pay3 2560 (by decide) (fun p k => by pointwise) (fun p k => by pointwise) (fun p k => by pointwise) (fun p k => by pointwise) x _ (congrArg (2560 + ·) (Nat.one_mul _)) ((Nat.zero_add _).trans (Nat.one_mul _))) (congrArg (fun z => step m c t z _ _) (zero_at _))
  · exact fun x => Eq.trans (pieceMax m c t _ _ _ _ k0_pay3 2048 (by decide) (fun p k => by pointwise) (fun p k => by pointwise) (fun p k => by pointwise) (fun p k => by pointwise) x _ (congrArg (2048 + ·) (Nat.one_mul _)) ((Nat.zero_add _).trans (Nat.one_mul _))) (congrArg (fun z => step m c t z _ _) (zero_at _))
  · exact fun x => Eq.trans (pieceMax m c t _ _ _ _ k0_pay3 1536 (by decide) (fun p k => by pointwise) (fun p k => by pointwise) (fun p k => by pointwise) (fun p k => by pointwise) x _ (congrArg (1536 + ·) (Nat.one_mul _)) ((Nat.zero_add _).trans (Nat.one_mul _))) (congrArg (fun z => step m c t z _ _) (zero_at _))
  · exact fun x => Eq.trans (pieceMax m c t _ _ _ _ k0_pay3 1024 (by decide) (fun p k => by pointwise) (fun p k => by pointwise) (fun p k => by pointwise) (fun p k => by pointwise) x _ (congrArg (1024 + ·) (Nat.one_mul _)) ((Nat.zero_add _).trans (Nat.one_mul _))) (congrArg (fun z => step m c t z _ _) (zero_at _))
  · exact fun x => Eq.trans (pieceMax m c t _ _ _ _ k0_pay3 512 (by decide) (fun p k => by pointwise) (fun p k => by pointwise) (fun p k => by pointwise) (fun p k => by pointwise) x _ (congrArg (512 + ·) (Nat.one_mul _)) ((Nat.zero_add _).trans (Nat.one_mul _))) (congrArg (fun z => step m c t z _ _) (zero_at _))
  · exact fun x => Eq.trans (pieceMax m c t _ _ _ _ k0_pay3 0 (by decide) (fun p k => by pointwise) (fun p k => by pointwise) (fun p k => by pointwise) (fun p k => by pointwise) x _ (congrArg (0 + ·) (Nat.one_mul _)) ((Nat.zero_add _).trans (Nat.one_mul _))) (congrArg (fun z => step m c t z _ _) (zero_at _))
  · exact View.cover_of_tiledL (s := S4096x128) _ ![512, 128] (by sl_kernel_rfl) y

/-- Every other point's: its own step, from what the point before left. -/
theorem out8_B (c : Dev nD) (t : Fin cfg0.N) (h : ¬ t.val % 36 = 0) (y : S4096x128.Idx) :
    (outsAt0 m c t.val t.isLt).2 y
      = step m c t ((outsAt0 m c (t.val - 1) (Nat.lt_of_le_of_lt (Nat.sub_le _ _) t.isLt)).2 y) (y 0) (y 1) := by
  rw [outsAt0_B m c t h]
  frame_open
  simp (disch := decide) only [↓ View.readCov_skip, ↓ View.readCov_cons_toLoadRect, ↓ View.readCov_fill]
  frame_out
  simp only [max0, max1, max2, max4, max5, max6, max7]
  canon_tiles x h
  case piece0 => exact pieceMax m c t _ _ _ _ _ 3584 (by decide) (fun p k => by pointwise) (fun p k => by pointwise) (fun p k => by pointwise) (fun p k => by pointwise) x y h0 h1
  case piece1 => exact pieceMax m c t _ _ _ _ _ 3072 (by decide) (fun p k => by pointwise) (fun p k => by pointwise) (fun p k => by pointwise) (fun p k => by pointwise) x y h0 h1
  case piece2 => exact pieceMax m c t _ _ _ _ _ 2560 (by decide) (fun p k => by pointwise) (fun p k => by pointwise) (fun p k => by pointwise) (fun p k => by pointwise) x y h0 h1
  case piece3 => exact pieceMax m c t _ _ _ _ _ 2048 (by decide) (fun p k => by pointwise) (fun p k => by pointwise) (fun p k => by pointwise) (fun p k => by pointwise) x y h0 h1
  case piece4 => exact pieceMax m c t _ _ _ _ _ 1536 (by decide) (fun p k => by pointwise) (fun p k => by pointwise) (fun p k => by pointwise) (fun p k => by pointwise) x y h0 h1
  case piece5 => exact pieceMax m c t _ _ _ _ _ 1024 (by decide) (fun p k => by pointwise) (fun p k => by pointwise) (fun p k => by pointwise) (fun p k => by pointwise) x y h0 h1
  case piece6 => exact pieceMax m c t _ _ _ _ _ 512 (by decide) (fun p k => by pointwise) (fun p k => by pointwise) (fun p k => by pointwise) (fun p k => by pointwise) x y h0 h1
  case piece7 => exact pieceMax m c t _ _ _ _ _ 0 (by decide) (fun p k => by pointwise) (fun p k => by pointwise) (fun p k => by pointwise) (fun p k => by pointwise) x y (h0.trans (Nat.zero_add _).symm) h1

end Cert.MlpIdeal.RefValue

end
-- ==== Proof.MlpArray.lean ====
/- What the two result arrays of the linear1_mlp kernel hold after its last grid point. -/
module
public import proofs.«01_k».proof.Proof.Gen.MlpIdeal.Frame
public import proofs.«01_k».proof.Proof.Spec
public import proofs.«01_k».proof.Proof.MlpBlock
public import Idealize.ShloMosaic.Lib.Pipeline.ReadBack
@[expose] public section
set_option maxRecDepth 16384
noncomputable section
open Idealize.ShloMosaic Idealize.ShloMosaic.TcCoe Idealize.SL.Sem
open scoped BigOperators
namespace Cert.MlpIdeal.RefValue
open Cert.MlpIdeal Cert.MlpIdeal.Gen
variable (m : (ℓ : Loc nD τ sig) → Buf (Elt Ideal) ℓ)

/-- A step of the running maximum is at most `b` when what it starts from and its 512 columns' share are. -/
theorem step_le (c : Dev nD) (t : Fin cfg0.N) (a : EReal) (r : Fin 4096) (l : Fin 128) (b : EReal) :
    step m c t a r l ≤ b ↔ a ≤ b ∧ ∀ n : Fin 18432, n.val % 128 = l → n.val / 512 = t.val → mag m c r n ≤ b := by
  have ht := lt_36 t
  simp only [step, max_le_iff]
  constructor
  · rintro ⟨⟨⟨⟨h, h0⟩, h1⟩, h2⟩, h3⟩
    refine ⟨h, fun n hl hn => ?_⟩
    have hk : n.val = t.val * 512 + l ∨ n.val = t.val * 512 + (128 + l) ∨ n.val = t.val * 512 + (256 + l) ∨ n.val = t.val * 512 + (384 + l) := by omega
    rcases hk with e | e | e | e <;> rw [show n = ⟨_, by omega⟩ from Fin.ext e] <;> assumption
  · rintro ⟨h, hn⟩
    exact ⟨⟨⟨⟨h, hn _ (by dsimp only; omega) (by dsimp only; omega)⟩, hn _ (by dsimp only; omega) (by dsimp only; omega)⟩,
      hn _ (by dsimp only; omega) (by dsimp only; omega)⟩, hn _ (by dsimp only; omega) (by dsimp only; omega)⟩

/-- After point `n` the running maximum bounds zero and every column of its lane up to that point, and is the least such. -/
theorem out8_le (c : Dev nD) (y : S4096x128.Idx) (b : EReal) : ∀ (n : ℕ) (hn : n < cfg0.N),
    (outsAt0 m c n hn).2 y ≤ b ↔ 0 ≤ b ∧ ∀ k : Fin 18432, k.val % 128 = (y 1).val → k.val / 512 ≤ n → mag m c (y 0) k ≤ b
  | 0, hn => by
    rw [show (outsAt0 m c 0 hn).2 y = _ from out8_A m c ⟨0, hn⟩ rfl y]
    refine (step_le m c ⟨0, hn⟩ 0 (y 0) (y 1) b).trans ?_
    refine and_congr_right fun _ => forall_congr' fun k => imp_congr_right fun _ => ?_
    simp only [Nat.le_zero]
  | n + 1, hn => by
    have h36 := lt_36 ⟨n + 1, hn⟩
    rw [show (outsAt0 m c (n + 1) hn).2 y = _ from out8_B m c ⟨n + 1, hn⟩ (by dsimp only at h36 ⊢; omega) y]
    refine (step_le m c ⟨n + 1, hn⟩ _ (y 0) (y 1) b).trans ?_
    have ih := out8_le c y b n (Nat.lt_of_succ_lt hn)
    simp only [Nat.add_sub_cancel] at ih ⊢
    rw [ih, and_assoc]
    refine and_congr_right fun _ => ⟨fun ⟨h1, h2⟩ k hl hk => ?_, fun h => ⟨fun k hl hk => h k hl (by omega), fun k hl hk => h k hl (by omega)⟩⟩
    rcases Nat.lt_or_ge n (k.val / 512) with h | h
    · exact h2 k hl (by omega)
    · exact h1 k hl h

/-- A magnitude is not negative. -/
theorem mag_nonneg (z : EReal) : 0 ≤ FloatOps.absf (F := Ideal) (φ := .f32) z := by
  show (0 : EReal) ≤ max z (-z)
  rcases le_total 0 z with h | h
  · exact h.trans (le_max_left _ _)
  · exact (EReal.neg_nonneg.2 h).trans (le_max_right _ _)

/-- The least float is below every value. -/
theorem neg_inf : Ideal.ofBits .f32 0xFF800000#32 = ⊥ := by simp [Ideal.ofBits, Ideal.ieee]

/-- The hidden values. -/
def hidden (c : Dev nD) : FVec Ideal S4096x18432 .f32 := fun y => Spec.gelu (linAt m c (y 0) (y 1))

/-- Their lane maxima: over the 144 columns of one lane. -/
def maxima (c : Dev nD) : FVec Ideal S4096x128 .f32 := fun y =>
  Finset.univ.fold max (Ideal.ofBits .f32 0xFF800000#32) fun k : Fin 144 => mag m c (y 0) ⟨k * 128 + (y 1 : Fin 128), by have : (y 1 : ℕ) < 128 := (y 1).isLt; omega⟩

/-- The hidden array after the run. -/
theorem final_7 (c : Dev nD) : (dats m 0 c).arrAt 7 (cfgs 0).N = hidden m c := by
  refine (dats m 0 c).arrAt_eq_of_covers 7 _ (by decide +kernel) fun t hf y => ?_
  blk_simp
  rw [after0_7]
  refine (out7 m c t y).trans (congrArg (hidden m c) (a₁ := ix2 (y 0) ⟨t.val * 512 + (y 1 : Fin 512), col_lt t (y 1)⟩) ?_)
  blk_ext [idx t]

/-- The lane maxima after the last point. -/
theorem out8_last (c : Dev nD) (t : Fin cfg0.N) (ht : t.val = 35) (y : S4096x128.Idx) : (outsAt0 m c t.val t.isLt).2 y = maxima m c y := by
  refine eq_of_forall_ge_iff fun b => ?_
  rw [out8_le, maxima, Finset.fold_max_le, neg_inf]
  have h1 : (y 1 : ℕ) < 128 := (y 1).isLt
  constructor
  · rintro ⟨-, h⟩
    exact ⟨bot_le, fun k _ => h _ (by dsimp only; omega) (by dsimp only; omega)⟩
  · rintro ⟨-, h⟩
    refine ⟨(mag_nonneg _).trans (h 0 (Finset.mem_univ _)), fun k hl _ => ?_⟩
    have e := h ⟨k.val / 128, by omega⟩ (Finset.mem_univ _)
    rwa [show (⟨_, _⟩ : Fin 18432) = k from Fin.ext (by dsimp only; omega)] at e

/-- The array of lane maxima after the run. -/
theorem final_8 (c : Dev nD) : (dats m 0 c).arrAt 8 (cfgs 0).N = maxima m c := by
  refine (dats m 0 c).arrAt_eq_of_covers 8 _ (by decide +kernel) fun t hf y => ?_
  have ht : t.val = 35 := by
    have := (flush0_8 t).1 hf
    have := lt_36 t
    omega
  blk_simp
  rw [after0_8]
  refine (out8_last m c t ht y).trans (congrArg (maxima m c) ?_)
  blk_ext [idx t]

end Cert.MlpIdeal.RefValue

end
-- ==== Proof.MlpRef.lean ====
/- What the reference of the linear1_mlp call leaves in its two result arrays. -/
module
public import proofs.«01_k».proof.Proof.Gen.MlpRefIdeal.Frame
public import proofs.«01_k».proof.Proof.Spec
@[expose] public section
set_option maxRecDepth 16384
noncomputable section
open Idealize.ShloMosaic Idealize.ShloMosaic.TcCoe Idealize.SL.Sem
open scoped BigOperators
namespace Cert.MlpRefIdeal.RefValue
open Cert.MlpRefIdeal Cert.MlpRefIdeal.Gen
variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- The reference's body, entry by entry. -/
theorem body_at (v0 : FVec Ideal S4096x6144 .fp8e4m3) (v1 : FVec Ideal S18432x6144 .fp8e4m3) (v2 : FVec Ideal S4096x1 .f32)
    (v3 v4 : FVec Ideal S1x18432 .f32) (v5 : FVec Ideal S4096x32 .bf16) (v6 : FVec Ideal S18432x32 .bf16) (p : Fin 4096) (q : Fin 18432) :
    k0_pay2 (F := Ideal) v0 v1 v2 v3 v4 v5 v6 (ix2 p q) = Spec.gelu ((∑ k : Fin 6144, v0 (ix2 p k) * v1 (ix2 q k)) * v2 (ix2 p 0) * v3 (ix2 0 q) + v4 (ix2 0 q)
      + Spec.half * ∑ k : Fin 32, v5 (ix2 p k) * v6 (ix2 q k)) := by
  pointwise [k0_pay2, Spec.gelu]

/-- The linear layer over the launch's arrays, the row scale read in lane 0. -/
abbrev lin0 (c : Dev nD) (r : Fin 4096) (n : Fin 18432) : EReal :=
  Spec.lin (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r ⟨18432 + n, by omega⟩ 0

/-- The hidden values over the launch's arrays. -/
theorem point (c : Dev nD) (t : Fin cfg0.N) (p : Fin 4096) (q : Fin 18432) :
    k0_pay2 (iblk m c 0 t) (iblk m c 1 t) (iblk m c 2 t) (iblk m c 3 t) (iblk m c 4 t) (iblk m c 5 t) (iblk m c 6 t) (ix2 p q) = Spec.gelu (lin0 m c p q) := by
  refine (body_at ..).trans (congrArg Spec.gelu ?_)
  simp only [lin0, Spec.lin]
  blk_point [iblk, V, idx t]

/-- The hidden values. -/
def hidden (c : Dev nD) : FVec Ideal S4096x18432 .f32 := fun y => Spec.gelu (lin0 m c (y 0) (y 1))

/-- Their lane maxima: over the 144 columns of one lane. -/
def maxima (c : Dev nD) : FVec Ideal S4096x128 .f32 := fun y =>
  Finset.univ.fold max (Ideal.ofBits .f32 0xFF800000#32) fun k : Fin 144 => FloatOps.absf (F := Ideal) (φ := .f32)
    (Spec.gelu (lin0 m c (y 0) ⟨k * 128 + (y 1 : Fin 128), by have : (y 1 : ℕ) < 128 := (y 1).isLt; omega⟩))

/-- The hidden array after the run. -/
theorem final_7 (c : Dev nD) : (dats m 0 c).arrAt 7 (cfgs 0).N = hidden m c := by
  refine (dats m 0 c).arrAt_eq_of_covers 7 _ (by decide +kernel) fun t hf y => ?_
  blk_simp; rw [after0_7]; frame_out
  rw [eq_ix2 y]
  refine (point m c t (y 0) (y 1)).trans (congrArg (hidden m c) (a₁ := ix2 (y 0) (y 1)) ?_)
  blk_ext [idx t]

/-- The reference's lane maxima, over the hidden values. -/
theorem maxima_at (v0 : FVec Ideal S4096x6144 .fp8e4m3) (v1 : FVec Ideal S18432x6144 .fp8e4m3) (v2 : FVec Ideal S4096x1 .f32)
    (v3 v4 : FVec Ideal S1x18432 .f32) (v5 : FVec Ideal S4096x32 .bf16) (v6 : FVec Ideal S18432x32 .bf16) (p : Fin 4096) (l : Fin 128) :
    k0_pay1 (F := Ideal) (k0_pay3 v0 v1 v2 v3 v4 v5 v6) (ix2 p l)
      = Finset.univ.fold max (Ideal.ofBits .f32 0xFF800000#32) fun k : Fin 144 => FloatOps.absf (F := Ideal) (φ := .f32)
        (k0_pay2 (F := Ideal) v0 v1 v2 v3 v4 v5 v6 (ix2 p ⟨k * 128 + l, by omega⟩)) := by
  pointwise [k0_pay1, k0_pay3]
  all_goals blk_point []

/-- The lane maxima over the launch's arrays. -/
theorem point_8 (c : Dev nD) (t : Fin cfg0.N) (p : Fin 4096) (l : Fin 128) :
    k0_pay1 (F := Ideal) (k0_pay3 (iblk m c 0 t) (iblk m c 1 t) (iblk m c 2 t) (iblk m c 3 t) (iblk m c 4 t) (iblk m c 5 t) (iblk m c 6 t)) (ix2 p l)
      = maxima m c (ix2 p l) := by
  refine (maxima_at ..).trans ?_
  simp only [point]
  rfl

/-- The array of lane maxima after the run. -/
theorem final_8 (c : Dev nD) : (dats m 0 c).arrAt 8 (cfgs 0).N = maxima m c := by
  refine (dats m 0 c).arrAt_eq_of_covers 8 _ (by decide +kernel) fun t hf y => ?_
  blk_simp; rw [after0_8]; frame_out
  rw [eq_ix2 y]
  refine (point_8 m c t (y 0) (y 1)).trans (congrArg (maxima m c) ?_)
  blk_ext [idx t]

end Cert.MlpRefIdeal.RefValue

end
-- ==== Proof.MlpEq.lean ====
/- The linear1_mlp call equals its reference: under the precondition that a row's scale is the same in every lane, the two
   hidden arrays and the two arrays of lane maxima agree. -/
module
public import proofs.«01_k».proof.Defs
public import proofs.«01_k».proof.Proof.Gen.MlpIdeal.Value
public import proofs.«01_k».proof.Proof.Gen.MlpRefIdeal.Value
public import proofs.«01_k».proof.Proof.Gen.Pre_rows_constant
public import proofs.«01_k».proof.Proof.MlpArray
public import proofs.«01_k».proof.Proof.MlpRef
@[expose] public section
set_option maxRecDepth 16384
noncomputable section
open Idealize.ShloMosaic Idealize.ShloMosaic.TcCoe Idealize.SL.Sem
open scoped BigOperators
namespace Cert.MlpEq

/-- The precondition, read: a row's scale is the same in every lane. -/
theorem rows (m : (ℓ : Loc MlpIdeal.nD MlpIdeal.τ MlpIdeal.sig) → Buf (Elt Ideal) ℓ) (h : Pre_MlpIdeal_rows_constant m) (c : Dev MlpIdeal.nD)
    (r : Fin 4096) (l : Fin 128) : (show FVec Ideal ⟨2, ![4096, 128]⟩ .f32 from m ((c : Thread MlpIdeal.nD MlpIdeal.τ).loc MlpIdeal.main_arg2)) (ix2 r l)
      = (show FVec Ideal ⟨2, ![4096, 128]⟩ .f32 from m ((c : Thread MlpIdeal.nD MlpIdeal.τ).loc MlpIdeal.main_arg2)) (ix2 r 0) := by
  have e := congrFun (h c) (ix2 r l : Pre_rows_constant.S4096x128.Idx)
  revert e
  generalize m ((c : Thread MlpIdeal.nD MlpIdeal.τ).loc MlpIdeal.main_arg2) = S
  pointwise [Pre_rows_constant.fn]
  intro e
  by_contra hne
  rw [decide_eq_false hne] at e
  exact absurd e (by decide)

/-- Under the precondition the kernel's linear layer is the reference's. -/
theorem lin_eq (m : (ℓ : Loc MlpIdeal.nD MlpIdeal.τ MlpIdeal.sig) → Buf (Elt Ideal) ℓ) (m' : (ℓ : Loc MlpRefIdeal.nD MlpRefIdeal.τ MlpRefIdeal.sig) → Buf (Elt Ideal) ℓ)
    (h : Pre_MlpIdeal_rows_constant m) (c : Dev MlpIdeal.nD)
    (h0 : m' ((c : Thread MlpRefIdeal.nD MlpRefIdeal.τ).loc MlpRefIdeal.main_arg0) = m ((c : Thread MlpIdeal.nD MlpIdeal.τ).loc MlpIdeal.main_arg0))
    (h1 : m' ((c : Thread MlpRefIdeal.nD MlpRefIdeal.τ).loc MlpRefIdeal.main_arg1) = m ((c : Thread MlpIdeal.nD MlpIdeal.τ).loc MlpIdeal.main_arg1))
    (h2 : m' ((c : Thread MlpRefIdeal.nD MlpRefIdeal.τ).loc MlpRefIdeal.main_arg2) = m ((c : Thread MlpIdeal.nD MlpIdeal.τ).loc MlpIdeal.main_arg2))
    (h3 : m' ((c : Thread MlpRefIdeal.nD MlpRefIdeal.τ).loc MlpRefIdeal.main_arg3) = m ((c : Thread MlpIdeal.nD MlpIdeal.τ).loc MlpIdeal.main_arg3))
    (h4 : m' ((c : Thread MlpRefIdeal.nD MlpRefIdeal.τ).loc MlpRefIdeal.main_arg4) = m ((c : Thread MlpIdeal.nD MlpIdeal.τ).loc MlpIdeal.main_arg4))
    (h5 : m' ((c : Thread MlpRefIdeal.nD MlpRefIdeal.τ).loc MlpRefIdeal.main_arg5) = m ((c : Thread MlpIdeal.nD MlpIdeal.τ).loc MlpIdeal.main_arg5))
    (h6 : m' ((c : Thread MlpRefIdeal.nD MlpRefIdeal.τ).loc MlpRefIdeal.main_arg6) = m ((c : Thread MlpIdeal.nD MlpIdeal.τ).loc MlpIdeal.main_arg6))
    (r : Fin 4096) (n : Fin 18432) : MlpRefIdeal.RefValue.lin0 m' c r n = MlpIdeal.RefValue.linAt m c r n := by
  simp only [MlpRefIdeal.RefValue.lin0, MlpIdeal.RefValue.linAt, h0, h1, h2, h3, h4, h5, h6]
  exact (Spec.lin_lane _ _ _ _ _ _ _ r _ _ _ (rows m h c r _)).symm

/-- `Cert.algebraic_MlpIdeal_MlpRefIdeal_pre_rows_constant`: both programs run and leave equal hidden arrays and equal lane maxima. -/
theorem algebraic : algebraic_MlpIdeal_MlpRefIdeal_pre_rows_constant (hMlpIdeal := MlpIdeal.Gen.facts) (hMlpRefIdeal := MlpRefIdeal.Gen.facts)
    (hPre_rows_constant := Pre_rows_constant.Gen.facts) := by
  intro m g m' g' hpre hagree
  refine ⟨fun c => MlpIdeal.RefValue.hidden m c, fun c => MlpIdeal.RefValue.maxima m c, ?_, ?_⟩
  · refine (θ_run _ _ _).mono (fun r h c => ?_) (MlpIdeal.Value.run_blocks m g)
    obtain ⟨a, b, hr⟩ := h c
    exact ⟨a.trans (MlpIdeal.RefValue.final_7 m c), b.trans (MlpIdeal.RefValue.final_8 m c), hr⟩
  · refine (θ_run _ _ _).mono (fun r h c => ?_) (MlpRefIdeal.Value.run_blocks m' g')
    obtain ⟨a, b, hr⟩ := h c
    obtain ⟨h0, h1, h2, h3, h4, h5, h6⟩ := hagree c
    have e := lin_eq m m' hpre c h0 h1 h2 h3 h4 h5 h6
    refine ⟨a.trans ((MlpRefIdeal.RefValue.final_7 m' c).trans ?_), b.trans ((MlpRefIdeal.RefValue.final_8 m' c).trans ?_), hr⟩
    · funext y
      simp only [MlpRefIdeal.RefValue.hidden, MlpIdeal.RefValue.hidden]
      exact congrArg Spec.gelu (e (y 0) (y 1))
    · funext y
      simp only [MlpRefIdeal.RefValue.maxima, MlpIdeal.RefValue.maxima]
      refine congrArg (fun f => Finset.fold max _ f Finset.univ) (funext fun k => congrArg _ (congrArg Spec.gelu (e _ _)))

end Cert.MlpEq

end
-- ==== Proof.NormQuantTile.lean ====
/- The norm_quant kernel's row sums: each is taken from 48 tiles of 128 columns, in three groups of sixteen, by adding slices and rotations. -/
module
public import proofs.«01_k».proof.Proof.Gen.NormQuantIdeal.Frame
public import proofs.«01_k».proof.Proof.Spec
public import Idealize.ShloMosaic.Lib.Pipeline.ReadBack
public import Idealize.ShloMosaic.Lib.ValueLayout
@[expose] public section
set_option maxRecDepth 16384
noncomputable section
open Idealize.ShloMosaic Idealize.ShloMosaic.TcCoe Idealize.SL.Sem
open scoped BigOperators
namespace Cert.NormQuantIdeal.RefValue
open Cert.NormQuantIdeal Cert.NormQuantIdeal.Gen

/-- The sixteen slices of eight rows, added. -/
def oct (a : FVec Ideal S128x128 .f32) : FVec Ideal S8x128 .f32 :=
  have v0 : FVec Ideal S8x128 .f32 := extractStridedSlice S8x128 ![0, 0] a slices_S128x128_o0_0_S8x128
  have v1 : FVec Ideal S8x128 .f32 := addf v0 (extractStridedSlice S8x128 ![8, 0] a slices_S128x128_o8_0_S8x128)
  have v2 : FVec Ideal S8x128 .f32 := addf v1 (extractStridedSlice S8x128 ![16, 0] a slices_S128x128_o16_0_S8x128)
  have v3 : FVec Ideal S8x128 .f32 := addf v2 (extractStridedSlice S8x128 ![24, 0] a slices_S128x128_o24_0_S8x128)
  have v4 : FVec Ideal S8x128 .f32 := addf v3 (extractStridedSlice S8x128 ![32, 0] a slices_S128x128_o32_0_S8x128)
  have v5 : FVec Ideal S8x128 .f32 := addf v4 (extractStridedSlice S8x128 ![40, 0] a slices_S128x128_o40_0_S8x128)
  have v6 : FVec Ideal S8x128 .f32 := addf v5 (extractStridedSlice S8x128 ![48, 0] a slices_S128x128_o48_0_S8x128)
  have v7 : FVec Ideal S8x128 .f32 := addf v6 (extractStridedSlice S8x128 ![56, 0] a slices_S128x128_o56_0_S8x128)
  have v8 : FVec Ideal S8x128 .f32 := addf v7 (extractStridedSlice S8x128 ![64, 0] a slices_S128x128_o64_0_S8x128)
  have v9 : FVec Ideal S8x128 .f32 := addf v8 (extractStridedSlice S8x128 ![72, 0] a slices_S128x128_o72_0_S8x128)
  have v10 : FVec Ideal S8x128 .f32 := addf v9 (extractStridedSlice S8x128 ![80, 0] a slices_S128x128_o80_0_S8x128)
  have v11 : FVec Ideal S8x128 .f32 := addf v10 (extractStridedSlice S8x128 ![88, 0] a slices_S128x128_o88_0_S8x128)
  have v12 : FVec Ideal S8x128 .f32 := addf v11 (extractStridedSlice S8x128 ![96, 0] a slices_S128x128_o96_0_S8x128)
  have v13 : FVec Ideal S8x128 .f32 := addf v12 (extractStridedSlice S8x128 ![104, 0] a slices_S128x128_o104_0_S8x128)
  have v14 : FVec Ideal S8x128 .f32 := addf v13 (extractStridedSlice S8x128 ![112, 0] a slices_S128x128_o112_0_S8x128)
  have v15 : FVec Ideal S8x128 .f32 := addf v14 (extractStridedSlice S8x128 ![120, 0] a slices_S128x128_o120_0_S8x128)
  v15

/-- Three rotations by halves, added: the sum of the eight rows in every row. -/
def roll8 (q : FVec Ideal S8x128 .f32) : FVec Ideal S8x128 .f32 :=
  have r4 : FVec Ideal S8x128 .f32 := addf (dynamicRotate 0 4#32 none q rotates_S8x128_d0) q
  have r2 : FVec Ideal S8x128 .f32 := addf (dynamicRotate 0 2#32 none r4 rotates_S8x128_d0) r4
  addf (dynamicRotate 0 1#32 none r2 rotates_S8x128_d0) r2

/-- The sum over the first axis as the kernel takes it. -/
def win (a : FVec Ideal S128x128 .f32) : FVec Ideal S8x128 .f32 := roll8 (oct a)

/-- Eight equal rows laid out as all the lanes of a tile. -/
def spread (q : FVec Ideal S8x128 .f32) : FVec Ideal S128x128 .f32 :=
  transpose S128x128 [1, 0] (concatenate S128x128 0 [⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩] concatenates_S8x128_S8x128_S8x128_S8x128_S8x128_S8x128_S8x128_S8x128_S8x128_S8x128_S8x128_S8x128_S8x128_S8x128_S8x128_S8x128_S128x128_d0) transposes_S128x128_p1_0_S128x128

theorem oct_at (a : FVec Ideal S128x128 .f32) (i : Fin 8) (p : Fin 128) :
    oct a (ix2 i p) = ∑ k : Fin 16, a (ix2 ⟨8 * k.val + i.val, by omega⟩ p) := by
  unfold oct
  pointwise
  simp only [Fin.sum_univ_succ, Fin.sum_univ_zero, Fin.val_zero, Fin.val_succ, add_zero]
  simp only [Nat.zero_add, Nat.mul_zero, Nat.reduceAdd, Nat.reduceMul]
  abel

theorem roll8_at (q : FVec Ideal S8x128 .f32) (i : Fin 8) (p : Fin 128) : roll8 q (ix2 i p) = ∑ j : Fin 8, q (ix2 j p) := by
  unfold roll8
  pointwise
  rw [Fin.sum_univ_eight]
  fin_cases i <;> simp <;> abel

/-- The kernel's window sum of a tile is the sum over the tile's first axis. -/
theorem win_at (a : FVec Ideal S128x128 .f32) (i : Fin 8) (p : Fin 128) : win a (ix2 i p) = ∑ l : Fin 128, a (ix2 l p) := by
  unfold win
  rw [roll8_at]
  simp only [oct_at]
  rw [Finset.sum_comm, ← Finset.sum_product']
  refine Finset.sum_nbij' (fun x => ⟨8 * x.1.val + x.2.val, by omega⟩) (fun l => (⟨l.val / 8, by omega⟩, ⟨l.val % 8, by omega⟩)) ?_ ?_ ?_ ?_ ?_
  · intro x _; exact Finset.mem_univ _
  · intro x _; simp
  · intro x _; ext <;> simp <;> omega
  · intro l _; ext; simp; omega
  · intro x _; rfl

theorem cat_at (q : FVec Ideal S8x128 .f32) (w : Fin 128 → EReal) (h : ∀ i p, q (ix2 i p) = w p) (j : S128x128.Idx) :
    ∀ (xs : List ((s : Shape) × (s.Idx → EReal))) (hs : ∀ s ∈ xs.map (·.1), s.FitsOff S128x128 (0 : Fin S128x128.rank)) (c : ℕ)
      (hc : c < (axisSizes S128x128 (0 : Fin S128x128.rank) xs).sum), (∀ x ∈ xs, x = ⟨S8x128, q⟩) →
      concatenateAt S128x128 (0 : Fin S128x128.rank) j xs hs c hc = w (j 1) := by
  have h' : ∀ y : S8x128.Idx, q y = w (y 1) := fun y => by rw [eq_ix2 y]; exact h _ _
  intro xs
  induction xs with
  | nil => intro hs c hc; exact absurd hc (Nat.not_lt_zero _)
  | cons x xs ih =>
    intro hs c hc hx
    obtain rfl := hx x List.mem_cons_self
    cases xs with
    | nil => rw [concatenateAt_singleton, h']; rfl
    | cons y ys =>
      rw [concatenateAt_cons]
      split
      · rw [h']; rfl
      · exact ih _ _ _ fun z hz => hx z (List.mem_cons_of_mem _ hz)

/-- Sixteen copies of eight equal rows, transposed: every lane of row `p` is entry `p` of the row. -/
theorem spread_at (q : FVec Ideal S8x128 .f32) (w : Fin 128 → EReal) (h : ∀ i p, q (ix2 i p) = w p) (p l : Fin 128) :
    spread q (ix2 p l) = w p := by
  unfold spread
  refine (ValueIdx.transpose_ix2_apply _ _ p l).trans ?_
  rw [concatenate_apply]
  exact cat_at q w h _ _ _ _ _ (fun x hx => by simpa using hx)

/-- A loaded tile as f32. -/
def tile (x : FVec Ideal S128x128 .bf16) : FVec Ideal S128x128 .f32 :=
  extf .f32 (shapeCast S128x128 x shapeCasts_S128x128_S128x128) bitsLt_bf16_f32

/-- A tile's squared distance from the mean. -/
def dist (μ : FVec Ideal S128x128 .f32) (x : FVec Ideal S128x128 .bf16) : FVec Ideal S128x128 .f32 :=
  mulf (subf (tile x) μ) (subf (tile x) μ)

/-- Sixteen tiles added from the left. -/
def sum16 (a0 a1 a2 a3 a4 a5 a6 a7 a8 a9 a10 a11 a12 a13 a14 a15 : FVec Ideal S128x128 .f32) : FVec Ideal S128x128 .f32 :=
  addf (addf (addf (addf (addf (addf (addf (addf (addf (addf (addf (addf (addf (addf (addf a0 a1) a2) a3) a4) a5) a6) a7) a8) a9) a10) a11) a12) a13) a14) a15

theorem tile_at (x : FVec Ideal S128x128 .bf16) (p l : Fin 128) : tile x (ix2 p l) = x (ix2 p l) := by
  pointwise [tile]

theorem dist_at (μ : FVec Ideal S128x128 .f32) (x : FVec Ideal S128x128 .bf16) (p l : Fin 128) :
    dist μ x (ix2 p l) = (x (ix2 p l) - μ (ix2 p l)) * (x (ix2 p l) - μ (ix2 p l)) := by
  pointwise [dist, tile]

theorem sum16_at (a0 a1 a2 a3 a4 a5 a6 a7 a8 a9 a10 a11 a12 a13 a14 a15 : FVec Ideal S128x128 .f32) (p l : Fin 128) : sum16 a0 a1 a2 a3 a4 a5 a6 a7 a8 a9 a10 a11 a12 a13 a14 a15 (ix2 p l) = a0 (ix2 p l) + a1 (ix2 p l) + a2 (ix2 p l) + a3 (ix2 p l) + a4 (ix2 p l) + a5 (ix2 p l) + a6 (ix2 p l) + a7 (ix2 p l) + a8 (ix2 p l) + a9 (ix2 p l) + a10 (ix2 p l) + a11 (ix2 p l) + a12 (ix2 p l) + a13 (ix2 p l) + a14 (ix2 p l) + a15 (ix2 p l) := by
  pointwise [sum16]

/-- The row sums of three groups of sixteen tiles, in all lanes. -/
def rowSum (a b d : FVec Ideal S128x128 .f32) : FVec Ideal S128x128 .f32 :=
  spread (addf (win (transpose S128x128 [1, 0] d transposes_S128x128_p1_0_S128x128))
    (addf (win (transpose S128x128 [1, 0] b transposes_S128x128_p1_0_S128x128))
      (win (transpose S128x128 [1, 0] a transposes_S128x128_p1_0_S128x128))))

theorem rowSum_at (a b d : FVec Ideal S128x128 .f32) (p l : Fin 128) :
    rowSum a b d (ix2 p l) = (∑ k : Fin 128, d (ix2 p k)) + ((∑ k : Fin 128, b (ix2 p k)) + ∑ k : Fin 128, a (ix2 p k)) := by
  have hw : ∀ (a : FVec Ideal S128x128 .f32) (i : Fin 8) (p : Fin 128),
      win (transpose S128x128 [1, 0] a transposes_S128x128_p1_0_S128x128) (ix2 i p) = ∑ k : Fin 128, a (ix2 p k) := fun a i p => by
    rw [win_at]
    exact Finset.sum_congr rfl fun k _ => ValueIdx.transpose_ix2_apply _ _ k p
  exact spread_at _ (fun p => (∑ k : Fin 128, d (ix2 p k)) + ((∑ k : Fin 128, b (ix2 p k)) + ∑ k : Fin 128, a (ix2 p k)))
    (fun i p => by rw [← hw d i p, ← hw b i p, ← hw a i p]; rfl) p l

/-- The mean of the rows as the kernel computes it from the 48 tiles. -/
def meanV (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16) : FVec Ideal S128x128 .f32 :=
  mulf (rowSum (sum16 (tile x0) (tile x1) (tile x2) (tile x3) (tile x4) (tile x5) (tile x6) (tile x7) (tile x8) (tile x9) (tile x10) (tile x11) (tile x12) (tile x13) (tile x14) (tile x15))
    (sum16 (tile x16) (tile x17) (tile x18) (tile x19) (tile x20) (tile x21) (tile x22) (tile x23) (tile x24) (tile x25) (tile x26) (tile x27) (tile x28) (tile x29) (tile x30) (tile x31))
    (sum16 (tile x32) (tile x33) (tile x34) (tile x35) (tile x36) (tile x37) (tile x38) (tile x39) (tile x40) (tile x41) (tile x42) (tile x43) (tile x44) (tile x45) (tile x46) (tile x47)))
    (broadcast S128x128 (Named.named κ "inv_6144" 0x392AAAAB#32))

/-- The reciprocal deviation of the rows as the kernel computes it from the mean and the 48 tiles. -/
def rstdV (μ : FVec Ideal S128x128 .f32) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16) : FVec Ideal S128x128 .f32 :=
  rsqrt (addf (mulf (rowSum (sum16 (dist μ x0) (dist μ x1) (dist μ x2) (dist μ x3) (dist μ x4) (dist μ x5) (dist μ x6) (dist μ x7) (dist μ x8) (dist μ x9) (dist μ x10) (dist μ x11) (dist μ x12) (dist μ x13) (dist μ x14) (dist μ x15))
    (sum16 (dist μ x16) (dist μ x17) (dist μ x18) (dist μ x19) (dist μ x20) (dist μ x21) (dist μ x22) (dist μ x23) (dist μ x24) (dist μ x25) (dist μ x26) (dist μ x27) (dist μ x28) (dist μ x29) (dist μ x30) (dist μ x31))
    (sum16 (dist μ x32) (dist μ x33) (dist μ x34) (dist μ x35) (dist μ x36) (dist μ x37) (dist μ x38) (dist μ x39) (dist μ x40) (dist μ x41) (dist μ x42) (dist μ x43) (dist μ x44) (dist μ x45) (dist μ x46) (dist μ x47)))
    (broadcast S128x128 (Named.named κ "inv_6144" 0x392AAAAB#32))) (broadcast S128x128 (Scalar.ofBits .f32 0x358637BD#32)))

theorem meanV_fold (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16) :
    k0_pay15 (F := Ideal) (k0_pay12 (k0_pay8 (k0_pay6 (k0_pay5 x0 x1 x2 x3 x4 x5 x6 x7 x8 x9) x10 x11 x12 x13 x14 x15) (k0_pay7 (k0_pay5 x0 x1 x2 x3 x4 x5 x6 x7 x8 x9) x10 x11 x12 x13 x14 x15)) (k0_pay10 (k0_pay9 x16 x17 x18 x19 x20 x21 x22) x23 x24 x25 x26 x27 x28 x29 x30 x31) (k0_pay11 (k0_pay9 x16 x17 x18 x19 x20 x21 x22) x23 x24 x25 x26 x27 x28 x29 x30 x31)) (k0_pay14 (k0_pay13 x32 x33 x34 x35) x36 x37 x38 x39 x40 x41 x42 x43 x44 x45) x46 x47
      = meanV x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 := rfl

theorem rstdV_fold (μ : FVec Ideal S128x128 .f32) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16) :
    k0_pay33 (F := Ideal) (k0_pay27 (k0_pay20 μ (k0_pay18 μ (k0_pay17 μ (k0_pay16 x0) x1 x2 x3 x4 x5 x6 x7) x8 x9 x10 x11 x12 x13 x14) (k0_pay19 x15)) (k0_pay24 μ (k0_pay22 μ (k0_pay21 μ x16 x17) x18 x19 x20 x21 x22 x23 x24) (k0_pay23 x25) x26 x27 x28 x29 x30 x31) (k0_pay25 μ (k0_pay22 μ (k0_pay21 μ x16 x17) x18 x19 x20 x21 x22 x23 x24) (k0_pay23 x25) x26 x27 x28 x29 x30 x31) (k0_pay26 μ (k0_pay22 μ (k0_pay21 μ x16 x17) x18 x19 x20 x21 x22 x23 x24) (k0_pay23 x25) x26 x27 x28 x29 x30 x31)) (k0_pay31 μ (k0_pay30 μ (k0_pay28 μ x32 x33 x34) (k0_pay29 x35) x36 x37 x38 x39 x40 x41 x42) x43 x44 x45 x46 x47) (k0_pay32 μ (k0_pay30 μ (k0_pay28 μ x32 x33 x34) (k0_pay29 x35) x36 x37 x38 x39 x40 x41 x42) x43 x44 x45 x46 x47)
      = rstdV μ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 := rfl

/-- 48 terms in three groups of sixteen. -/
theorem sum48 (g : ℕ → EReal) : ∑ j : Fin 48, g j.val = (g 32 + g 33 + g 34 + g 35 + g 36 + g 37 + g 38 + g 39 + g 40 + g 41 + g 42 + g 43 + g 44 + g 45 + g 46 + g 47)
    + ((g 16 + g 17 + g 18 + g 19 + g 20 + g 21 + g 22 + g 23 + g 24 + g 25 + g 26 + g 27 + g 28 + g 29 + g 30 + g 31) + (g 0 + g 1 + g 2 + g 3 + g 4 + g 5 + g 6 + g 7 + g 8 + g 9 + g 10 + g 11 + g 12 + g 13 + g 14 + g 15)) := by
  rw [Fin.sum_univ_eq_sum_range g 48]
  simp only [Finset.sum_range_succ, Finset.sum_range_zero, zero_add]
  abel

/-- A sum over the 6144 columns, as 48 sums of 128 columns in three groups. -/
theorem split48 (f : Fin 6144 → EReal) : ∑ k : Fin 6144, f k =
    (∑ l : Fin 128, (f ⟨4096 + l, by omega⟩ + f ⟨4224 + l, by omega⟩ + f ⟨4352 + l, by omega⟩ + f ⟨4480 + l, by omega⟩ + f ⟨4608 + l, by omega⟩ + f ⟨4736 + l, by omega⟩ + f ⟨4864 + l, by omega⟩ + f ⟨4992 + l, by omega⟩ + f ⟨5120 + l, by omega⟩ + f ⟨5248 + l, by omega⟩ + f ⟨5376 + l, by omega⟩ + f ⟨5504 + l, by omega⟩ + f ⟨5632 + l, by omega⟩ + f ⟨5760 + l, by omega⟩ + f ⟨5888 + l, by omega⟩ + f ⟨6016 + l, by omega⟩))
    + ((∑ l : Fin 128, (f ⟨2048 + l, by omega⟩ + f ⟨2176 + l, by omega⟩ + f ⟨2304 + l, by omega⟩ + f ⟨2432 + l, by omega⟩ + f ⟨2560 + l, by omega⟩ + f ⟨2688 + l, by omega⟩ + f ⟨2816 + l, by omega⟩ + f ⟨2944 + l, by omega⟩ + f ⟨3072 + l, by omega⟩ + f ⟨3200 + l, by omega⟩ + f ⟨3328 + l, by omega⟩ + f ⟨3456 + l, by omega⟩ + f ⟨3584 + l, by omega⟩ + f ⟨3712 + l, by omega⟩ + f ⟨3840 + l, by omega⟩ + f ⟨3968 + l, by omega⟩))
    + (∑ l : Fin 128, (f ⟨0 + l, by omega⟩ + f ⟨128 + l, by omega⟩ + f ⟨256 + l, by omega⟩ + f ⟨384 + l, by omega⟩ + f ⟨512 + l, by omega⟩ + f ⟨640 + l, by omega⟩ + f ⟨768 + l, by omega⟩ + f ⟨896 + l, by omega⟩ + f ⟨1024 + l, by omega⟩ + f ⟨1152 + l, by omega⟩ + f ⟨1280 + l, by omega⟩ + f ⟨1408 + l, by omega⟩ + f ⟨1536 + l, by omega⟩ + f ⟨1664 + l, by omega⟩ + f ⟨1792 + l, by omega⟩ + f ⟨1920 + l, by omega⟩))) := by
  have e : ∑ k : Fin 6144, f k = ∑ j : Fin 48, ∑ l : Fin 128, f ⟨128 * j.val + l.val, by omega⟩ := by
    rw [← Finset.sum_product']
    refine Finset.sum_nbij' (fun l => (⟨l.val / 128, by omega⟩, ⟨l.val % 128, by omega⟩)) (fun x => ⟨128 * x.1.val + x.2.val, by omega⟩) ?_ ?_ ?_ ?_ ?_
    · intro x _; exact Finset.mem_univ _
    · intro x _; exact Finset.mem_univ _
    · intro l _; ext; simp; omega
    · intro x _; ext <;> simp <;> omega
    · intro x _; exact congrArg f (Fin.ext (by simp; omega))
  let G : ℕ → EReal := fun n => ∑ l : Fin 128, if h : 128 * n + l.val < 6144 then f ⟨128 * n + l.val, h⟩ else 0
  have e2 : ∀ n : ℕ, ∀ hn : n < 48, G n = ∑ l : Fin 128, f ⟨128 * n + l.val, by omega⟩ := fun n hn =>
    Finset.sum_congr rfl fun l _ => dif_pos _
  rw [e]
  refine (Finset.sum_congr rfl fun j _ => (e2 j.val j.isLt).symm).trans ((sum48 G).trans ?_)
  simp only [Finset.sum_add_distrib]
  rw [e2 0 (by decide)]
  rw [e2 1 (by decide)]
  rw [e2 2 (by decide)]
  rw [e2 3 (by decide)]
  rw [e2 4 (by decide)]
  rw [e2 5 (by decide)]
  rw [e2 6 (by decide)]
  rw [e2 7 (by decide)]
  rw [e2 8 (by decide)]
  rw [e2 9 (by decide)]
  rw [e2 10 (by decide)]
  rw [e2 11 (by decide)]
  rw [e2 12 (by decide)]
  rw [e2 13 (by decide)]
  rw [e2 14 (by decide)]
  rw [e2 15 (by decide)]
  rw [e2 16 (by decide)]
  rw [e2 17 (by decide)]
  rw [e2 18 (by decide)]
  rw [e2 19 (by decide)]
  rw [e2 20 (by decide)]
  rw [e2 21 (by decide)]
  rw [e2 22 (by decide)]
  rw [e2 23 (by decide)]
  rw [e2 24 (by decide)]
  rw [e2 25 (by decide)]
  rw [e2 26 (by decide)]
  rw [e2 27 (by decide)]
  rw [e2 28 (by decide)]
  rw [e2 29 (by decide)]
  rw [e2 30 (by decide)]
  rw [e2 31 (by decide)]
  rw [e2 32 (by decide)]
  rw [e2 33 (by decide)]
  rw [e2 34 (by decide)]
  rw [e2 35 (by decide)]
  rw [e2 36 (by decide)]
  rw [e2 37 (by decide)]
  rw [e2 38 (by decide)]
  rw [e2 39 (by decide)]
  rw [e2 40 (by decide)]
  rw [e2 41 (by decide)]
  rw [e2 42 (by decide)]
  rw [e2 43 (by decide)]
  rw [e2 44 (by decide)]
  rw [e2 45 (by decide)]
  rw [e2 46 (by decide)]
  rw [e2 47 (by decide)]

/-- `x` is the tile of `X` from column `o` on. -/
def IsTile (X : Fin 128 → Fin 6144 → EReal) (o : ℕ) (x : FVec Ideal S128x128 .bf16) : Prop :=
  ∀ (p l : Fin 128) (h : o + l.val < 6144), x (ix2 p l) = X p ⟨o + l.val, h⟩

/-- The mean of each row of `X`, in all lanes. -/
def meanF (X : Fin 128 → Fin 6144 → EReal) : FVec Ideal S128x128 .f32 := fun i => (∑ k : Fin 6144, X (i 0) k) * ((1 / 6144 : ℝ) : EReal)

/-- The reciprocal deviation of each row of `X` about `μ`, in all lanes. -/
def rstdF (μ : FVec Ideal S128x128 .f32) (X : Fin 128 → Fin 6144 → EReal) : FVec Ideal S128x128 .f32 := fun i =>
  Ideal.rsqrt ((∑ k : Fin 6144, (X (i 0) k - μ (ix2 (i 0) (0 : Fin 128))) * (X (i 0) k - μ (ix2 (i 0) (0 : Fin 128)))) * ((1 / 6144 : ℝ) : EReal)
    + Ideal.ofBits .f32 0x358637BD#32)

theorem inv_eq : Named.named (F := Ideal) (φ := .f32) κ "inv_6144" 0x392AAAAB#32 = ((1 / 6144 : ℝ) : EReal) :=
  IdealRules.named_const.ideal_named_scalar _ _ _ _ rfl

theorem mean_core (a b d : FVec Ideal S128x128 .f32) (p l : Fin 128) :
    mulf (rowSum a b d) (broadcast S128x128 (Named.named κ "inv_6144" 0x392AAAAB#32)) (ix2 p l)
      = ((∑ k : Fin 128, d (ix2 p k)) + ((∑ k : Fin 128, b (ix2 p k)) + ∑ k : Fin 128, a (ix2 p k))) * ((1 / 6144 : ℝ) : EReal) := by
  rw [← rowSum_at a b d p l, ← inv_eq]
  rfl

theorem rstd_core (a b d : FVec Ideal S128x128 .f32) (p l : Fin 128) :
    rsqrt (addf (mulf (rowSum a b d) (broadcast S128x128 (Named.named κ "inv_6144" 0x392AAAAB#32)))
      (broadcast S128x128 (Scalar.ofBits .f32 0x358637BD#32))) (ix2 p l)
      = Ideal.rsqrt (((∑ k : Fin 128, d (ix2 p k)) + ((∑ k : Fin 128, b (ix2 p k)) + ∑ k : Fin 128, a (ix2 p k))) * ((1 / 6144 : ℝ) : EReal)
        + Ideal.ofBits .f32 0x358637BD#32) := by
  rw [← mean_core a b d p l]
  rfl

theorem meanV_eq (X : Fin 128 → Fin 6144 → EReal) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16)
    (h0 : IsTile X 0 x0) (h1 : IsTile X 128 x1) (h2 : IsTile X 256 x2) (h3 : IsTile X 384 x3) (h4 : IsTile X 512 x4) (h5 : IsTile X 640 x5) (h6 : IsTile X 768 x6) (h7 : IsTile X 896 x7) (h8 : IsTile X 1024 x8) (h9 : IsTile X 1152 x9) (h10 : IsTile X 1280 x10) (h11 : IsTile X 1408 x11) (h12 : IsTile X 1536 x12) (h13 : IsTile X 1664 x13) (h14 : IsTile X 1792 x14) (h15 : IsTile X 1920 x15) (h16 : IsTile X 2048 x16) (h17 : IsTile X 2176 x17) (h18 : IsTile X 2304 x18) (h19 : IsTile X 2432 x19) (h20 : IsTile X 2560 x20) (h21 : IsTile X 2688 x21) (h22 : IsTile X 2816 x22) (h23 : IsTile X 2944 x23) (h24 : IsTile X 3072 x24) (h25 : IsTile X 3200 x25) (h26 : IsTile X 3328 x26) (h27 : IsTile X 3456 x27) (h28 : IsTile X 3584 x28) (h29 : IsTile X 3712 x29) (h30 : IsTile X 3840 x30) (h31 : IsTile X 3968 x31) (h32 : IsTile X 4096 x32) (h33 : IsTile X 4224 x33) (h34 : IsTile X 4352 x34) (h35 : IsTile X 4480 x35) (h36 : IsTile X 4608 x36) (h37 : IsTile X 4736 x37) (h38 : IsTile X 4864 x38) (h39 : IsTile X 4992 x39) (h40 : IsTile X 5120 x40) (h41 : IsTile X 5248 x41) (h42 : IsTile X 5376 x42) (h43 : IsTile X 5504 x43) (h44 : IsTile X 5632 x44) (h45 : IsTile X 5760 x45) (h46 : IsTile X 5888 x46) (h47 : IsTile X 6016 x47) :
    meanV x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 = meanF X := by
  funext i
  obtain ⟨p, l, rfl⟩ : ∃ (p l : Fin 128), i = ix2 p l := ⟨i 0, i 1, eq_ix2 i⟩
  have s32 : ∑ k : Fin 128, sum16 (tile x32) (tile x33) (tile x34) (tile x35) (tile x36) (tile x37) (tile x38) (tile x39) (tile x40) (tile x41) (tile x42) (tile x43) (tile x44) (tile x45) (tile x46) (tile x47) (ix2 p k)
      = ∑ k : Fin 128, (X p ⟨4096 + k, by omega⟩ + X p ⟨4224 + k, by omega⟩ + X p ⟨4352 + k, by omega⟩ + X p ⟨4480 + k, by omega⟩ + X p ⟨4608 + k, by omega⟩ + X p ⟨4736 + k, by omega⟩ + X p ⟨4864 + k, by omega⟩ + X p ⟨4992 + k, by omega⟩ + X p ⟨5120 + k, by omega⟩ + X p ⟨5248 + k, by omega⟩ + X p ⟨5376 + k, by omega⟩ + X p ⟨5504 + k, by omega⟩ + X p ⟨5632 + k, by omega⟩ + X p ⟨5760 + k, by omega⟩ + X p ⟨5888 + k, by omega⟩ + X p ⟨6016 + k, by omega⟩) := Finset.sum_congr rfl fun k _ => by
    rw [sum16_at]
    simp only [tile_at]
    rw [h32 p k (by omega), h33 p k (by omega), h34 p k (by omega), h35 p k (by omega), h36 p k (by omega), h37 p k (by omega), h38 p k (by omega), h39 p k (by omega), h40 p k (by omega), h41 p k (by omega), h42 p k (by omega), h43 p k (by omega), h44 p k (by omega), h45 p k (by omega), h46 p k (by omega), h47 p k (by omega)]
  have s16 : ∑ k : Fin 128, sum16 (tile x16) (tile x17) (tile x18) (tile x19) (tile x20) (tile x21) (tile x22) (tile x23) (tile x24) (tile x25) (tile x26) (tile x27) (tile x28) (tile x29) (tile x30) (tile x31) (ix2 p k)
      = ∑ k : Fin 128, (X p ⟨2048 + k, by omega⟩ + X p ⟨2176 + k, by omega⟩ + X p ⟨2304 + k, by omega⟩ + X p ⟨2432 + k, by omega⟩ + X p ⟨2560 + k, by omega⟩ + X p ⟨2688 + k, by omega⟩ + X p ⟨2816 + k, by omega⟩ + X p ⟨2944 + k, by omega⟩ + X p ⟨3072 + k, by omega⟩ + X p ⟨3200 + k, by omega⟩ + X p ⟨3328 + k, by omega⟩ + X p ⟨3456 + k, by omega⟩ + X p ⟨3584 + k, by omega⟩ + X p ⟨3712 + k, by omega⟩ + X p ⟨3840 + k, by omega⟩ + X p ⟨3968 + k, by omega⟩) := Finset.sum_congr rfl fun k _ => by
    rw [sum16_at]
    simp only [tile_at]
    rw [h16 p k (by omega), h17 p k (by omega), h18 p k (by omega), h19 p k (by omega), h20 p k (by omega), h21 p k (by omega), h22 p k (by omega), h23 p k (by omega), h24 p k (by omega), h25 p k (by omega), h26 p k (by omega), h27 p k (by omega), h28 p k (by omega), h29 p k (by omega), h30 p k (by omega), h31 p k (by omega)]
  have s0 : ∑ k : Fin 128, sum16 (tile x0) (tile x1) (tile x2) (tile x3) (tile x4) (tile x5) (tile x6) (tile x7) (tile x8) (tile x9) (tile x10) (tile x11) (tile x12) (tile x13) (tile x14) (tile x15) (ix2 p k)
      = ∑ k : Fin 128, (X p ⟨0 + k, by omega⟩ + X p ⟨128 + k, by omega⟩ + X p ⟨256 + k, by omega⟩ + X p ⟨384 + k, by omega⟩ + X p ⟨512 + k, by omega⟩ + X p ⟨640 + k, by omega⟩ + X p ⟨768 + k, by omega⟩ + X p ⟨896 + k, by omega⟩ + X p ⟨1024 + k, by omega⟩ + X p ⟨1152 + k, by omega⟩ + X p ⟨1280 + k, by omega⟩ + X p ⟨1408 + k, by omega⟩ + X p ⟨1536 + k, by omega⟩ + X p ⟨1664 + k, by omega⟩ + X p ⟨1792 + k, by omega⟩ + X p ⟨1920 + k, by omega⟩) := Finset.sum_congr rfl fun k _ => by
    rw [sum16_at]
    simp only [tile_at]
    rw [h0 p k (by omega), h1 p k (by omega), h2 p k (by omega), h3 p k (by omega), h4 p k (by omega), h5 p k (by omega), h6 p k (by omega), h7 p k (by omega), h8 p k (by omega), h9 p k (by omega), h10 p k (by omega), h11 p k (by omega), h12 p k (by omega), h13 p k (by omega), h14 p k (by omega), h15 p k (by omega)]
  rw [meanV, mean_core, s32, s16, s0, ← split48 (X p)]
  rfl

theorem rstdV_eq (μ : FVec Ideal S128x128 .f32) (hμ : ∀ p l : Fin 128, μ (ix2 p l) = μ (ix2 p (0 : Fin 128)))
    (X : Fin 128 → Fin 6144 → EReal) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16)
    (h0 : IsTile X 0 x0) (h1 : IsTile X 128 x1) (h2 : IsTile X 256 x2) (h3 : IsTile X 384 x3) (h4 : IsTile X 512 x4) (h5 : IsTile X 640 x5) (h6 : IsTile X 768 x6) (h7 : IsTile X 896 x7) (h8 : IsTile X 1024 x8) (h9 : IsTile X 1152 x9) (h10 : IsTile X 1280 x10) (h11 : IsTile X 1408 x11) (h12 : IsTile X 1536 x12) (h13 : IsTile X 1664 x13) (h14 : IsTile X 1792 x14) (h15 : IsTile X 1920 x15) (h16 : IsTile X 2048 x16) (h17 : IsTile X 2176 x17) (h18 : IsTile X 2304 x18) (h19 : IsTile X 2432 x19) (h20 : IsTile X 2560 x20) (h21 : IsTile X 2688 x21) (h22 : IsTile X 2816 x22) (h23 : IsTile X 2944 x23) (h24 : IsTile X 3072 x24) (h25 : IsTile X 3200 x25) (h26 : IsTile X 3328 x26) (h27 : IsTile X 3456 x27) (h28 : IsTile X 3584 x28) (h29 : IsTile X 3712 x29) (h30 : IsTile X 3840 x30) (h31 : IsTile X 3968 x31) (h32 : IsTile X 4096 x32) (h33 : IsTile X 4224 x33) (h34 : IsTile X 4352 x34) (h35 : IsTile X 4480 x35) (h36 : IsTile X 4608 x36) (h37 : IsTile X 4736 x37) (h38 : IsTile X 4864 x38) (h39 : IsTile X 4992 x39) (h40 : IsTile X 5120 x40) (h41 : IsTile X 5248 x41) (h42 : IsTile X 5376 x42) (h43 : IsTile X 5504 x43) (h44 : IsTile X 5632 x44) (h45 : IsTile X 5760 x45) (h46 : IsTile X 5888 x46) (h47 : IsTile X 6016 x47) :
    rstdV μ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 = rstdF μ X := by
  funext i
  obtain ⟨p, l, rfl⟩ : ∃ (p l : Fin 128), i = ix2 p l := ⟨i 0, i 1, eq_ix2 i⟩
  let f : Fin 6144 → EReal := fun k => (X p k - μ (ix2 p (0 : Fin 128))) * (X p k - μ (ix2 p (0 : Fin 128)))
  have s32 : ∑ k : Fin 128, sum16 (dist μ x32) (dist μ x33) (dist μ x34) (dist μ x35) (dist μ x36) (dist μ x37) (dist μ x38) (dist μ x39) (dist μ x40) (dist μ x41) (dist μ x42) (dist μ x43) (dist μ x44) (dist μ x45) (dist μ x46) (dist μ x47) (ix2 p k)
      = ∑ k : Fin 128, (f ⟨4096 + k, by omega⟩ + f ⟨4224 + k, by omega⟩ + f ⟨4352 + k, by omega⟩ + f ⟨4480 + k, by omega⟩ + f ⟨4608 + k, by omega⟩ + f ⟨4736 + k, by omega⟩ + f ⟨4864 + k, by omega⟩ + f ⟨4992 + k, by omega⟩ + f ⟨5120 + k, by omega⟩ + f ⟨5248 + k, by omega⟩ + f ⟨5376 + k, by omega⟩ + f ⟨5504 + k, by omega⟩ + f ⟨5632 + k, by omega⟩ + f ⟨5760 + k, by omega⟩ + f ⟨5888 + k, by omega⟩ + f ⟨6016 + k, by omega⟩) := Finset.sum_congr rfl fun k _ => by
    rw [sum16_at]
    simp only [dist_at, hμ p k]
    rw [h32 p k (by omega), h33 p k (by omega), h34 p k (by omega), h35 p k (by omega), h36 p k (by omega), h37 p k (by omega), h38 p k (by omega), h39 p k (by omega), h40 p k (by omega), h41 p k (by omega), h42 p k (by omega), h43 p k (by omega), h44 p k (by omega), h45 p k (by omega), h46 p k (by omega), h47 p k (by omega)]
  have s16 : ∑ k : Fin 128, sum16 (dist μ x16) (dist μ x17) (dist μ x18) (dist μ x19) (dist μ x20) (dist μ x21) (dist μ x22) (dist μ x23) (dist μ x24) (dist μ x25) (dist μ x26) (dist μ x27) (dist μ x28) (dist μ x29) (dist μ x30) (dist μ x31) (ix2 p k)
      = ∑ k : Fin 128, (f ⟨2048 + k, by omega⟩ + f ⟨2176 + k, by omega⟩ + f ⟨2304 + k, by omega⟩ + f ⟨2432 + k, by omega⟩ + f ⟨2560 + k, by omega⟩ + f ⟨2688 + k, by omega⟩ + f ⟨2816 + k, by omega⟩ + f ⟨2944 + k, by omega⟩ + f ⟨3072 + k, by omega⟩ + f ⟨3200 + k, by omega⟩ + f ⟨3328 + k, by omega⟩ + f ⟨3456 + k, by omega⟩ + f ⟨3584 + k, by omega⟩ + f ⟨3712 + k, by omega⟩ + f ⟨3840 + k, by omega⟩ + f ⟨3968 + k, by omega⟩) := Finset.sum_congr rfl fun k _ => by
    rw [sum16_at]
    simp only [dist_at, hμ p k]
    rw [h16 p k (by omega), h17 p k (by omega), h18 p k (by omega), h19 p k (by omega), h20 p k (by omega), h21 p k (by omega), h22 p k (by omega), h23 p k (by omega), h24 p k (by omega), h25 p k (by omega), h26 p k (by omega), h27 p k (by omega), h28 p k (by omega), h29 p k (by omega), h30 p k (by omega), h31 p k (by omega)]
  have s0 : ∑ k : Fin 128, sum16 (dist μ x0) (dist μ x1) (dist μ x2) (dist μ x3) (dist μ x4) (dist μ x5) (dist μ x6) (dist μ x7) (dist μ x8) (dist μ x9) (dist μ x10) (dist μ x11) (dist μ x12) (dist μ x13) (dist μ x14) (dist μ x15) (ix2 p k)
      = ∑ k : Fin 128, (f ⟨0 + k, by omega⟩ + f ⟨128 + k, by omega⟩ + f ⟨256 + k, by omega⟩ + f ⟨384 + k, by omega⟩ + f ⟨512 + k, by omega⟩ + f ⟨640 + k, by omega⟩ + f ⟨768 + k, by omega⟩ + f ⟨896 + k, by omega⟩ + f ⟨1024 + k, by omega⟩ + f ⟨1152 + k, by omega⟩ + f ⟨1280 + k, by omega⟩ + f ⟨1408 + k, by omega⟩ + f ⟨1536 + k, by omega⟩ + f ⟨1664 + k, by omega⟩ + f ⟨1792 + k, by omega⟩ + f ⟨1920 + k, by omega⟩) := Finset.sum_congr rfl fun k _ => by
    rw [sum16_at]
    simp only [dist_at, hμ p k]
    rw [h0 p k (by omega), h1 p k (by omega), h2 p k (by omega), h3 p k (by omega), h4 p k (by omega), h5 p k (by omega), h6 p k (by omega), h7 p k (by omega), h8 p k (by omega), h9 p k (by omega), h10 p k (by omega), h11 p k (by omega), h12 p k (by omega), h13 p k (by omega), h14 p k (by omega), h15 p k (by omega)]
  rw [rstdV, rstd_core, s32, s16, s0, ← split48 f]
  rfl

/-- The largest over the lanes of the largest over the 48 tiles is the largest over the 6144 columns. -/
theorem max48 (f : Fin 6144 → EReal) (hf : ∀ k, 0 ≤ f k) :
    (Finset.univ : Finset (Fin 128)).fold max ⊥ (fun l : Fin 128 => max (max (max (max (max (max (max (max (max (max (max (max (max (max (max (max (max (max (max (max (max (max (max (max (max (max (max (max (max (max (max (max (max (max (max (max (max (max (max (max (max (max (max (max (max (max (max (max 0 (f ⟨0 + l, by omega⟩)) (f ⟨128 + l, by omega⟩)) (f ⟨256 + l, by omega⟩)) (f ⟨384 + l, by omega⟩)) (f ⟨512 + l, by omega⟩)) (f ⟨640 + l, by omega⟩)) (f ⟨768 + l, by omega⟩)) (f ⟨896 + l, by omega⟩)) (f ⟨1024 + l, by omega⟩)) (f ⟨1152 + l, by omega⟩)) (f ⟨1280 + l, by omega⟩)) (f ⟨1408 + l, by omega⟩)) (f ⟨1536 + l, by omega⟩)) (f ⟨1664 + l, by omega⟩)) (f ⟨1792 + l, by omega⟩)) (f ⟨1920 + l, by omega⟩)) (f ⟨2048 + l, by omega⟩)) (f ⟨2176 + l, by omega⟩)) (f ⟨2304 + l, by omega⟩)) (f ⟨2432 + l, by omega⟩)) (f ⟨2560 + l, by omega⟩)) (f ⟨2688 + l, by omega⟩)) (f ⟨2816 + l, by omega⟩)) (f ⟨2944 + l, by omega⟩)) (f ⟨3072 + l, by omega⟩)) (f ⟨3200 + l, by omega⟩)) (f ⟨3328 + l, by omega⟩)) (f ⟨3456 + l, by omega⟩)) (f ⟨3584 + l, by omega⟩)) (f ⟨3712 + l, by omega⟩)) (f ⟨3840 + l, by omega⟩)) (f ⟨3968 + l, by omega⟩)) (f ⟨4096 + l, by omega⟩)) (f ⟨4224 + l, by omega⟩)) (f ⟨4352 + l, by omega⟩)) (f ⟨4480 + l, by omega⟩)) (f ⟨4608 + l, by omega⟩)) (f ⟨4736 + l, by omega⟩)) (f ⟨4864 + l, by omega⟩)) (f ⟨4992 + l, by omega⟩)) (f ⟨5120 + l, by omega⟩)) (f ⟨5248 + l, by omega⟩)) (f ⟨5376 + l, by omega⟩)) (f ⟨5504 + l, by omega⟩)) (f ⟨5632 + l, by omega⟩)) (f ⟨5760 + l, by omega⟩)) (f ⟨5888 + l, by omega⟩)) (f ⟨6016 + l, by omega⟩))
      = (Finset.univ : Finset (Fin 6144)).fold max ⊥ f := by
  refine eq_of_forall_ge_iff fun b => ?_
  simp only [Finset.fold_max_le, bot_le, true_and, Finset.mem_univ, forall_const, max_le_iff]
  constructor
  · intro h k
    have key : ∀ (c : ℕ) (l : Fin 128) (hc : 128 * c + l.val < 6144), f ⟨128 * c + l.val, hc⟩ ≤ b := by
      intro c l hc
      have hk := h l
      simp only [and_assoc] at hk
      obtain ⟨_, a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hk
      have hc' : c < 48 := by omega
      interval_cases c
      · exact a0
      · exact a1
      · exact a2
      · exact a3
      · exact a4
      · exact a5
      · exact a6
      · exact a7
      · exact a8
      · exact a9
      · exact a10
      · exact a11
      · exact a12
      · exact a13
      · exact a14
      · exact a15
      · exact a16
      · exact a17
      · exact a18
      · exact a19
      · exact a20
      · exact a21
      · exact a22
      · exact a23
      · exact a24
      · exact a25
      · exact a26
      · exact a27
      · exact a28
      · exact a29
      · exact a30
      · exact a31
      · exact a32
      · exact a33
      · exact a34
      · exact a35
      · exact a36
      · exact a37
      · exact a38
      · exact a39
      · exact a40
      · exact a41
      · exact a42
      · exact a43
      · exact a44
      · exact a45
      · exact a46
      · exact a47
    have e : (⟨128 * (k.val / 128) + k.val % 128, by omega⟩ : Fin 6144) = k := Fin.ext (Nat.div_add_mod _ _)
    have hk := key (k.val / 128) ⟨k.val % 128, Nat.mod_lt _ (by decide)⟩ (by dsimp only; omega)
    rwa [e] at hk
  · intro h l
    exact ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨(hf _).trans (h ⟨0, by decide⟩), h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩, h _⟩

end Cert.NormQuantIdeal.RefValue

end
-- ==== Proof.NormQuantFold.lean ====
/- The tile expressions of the norm_quant call brought to named form: each step of the body is recognised as one of the tile
   functions of `NormQuantTile`, and a row's mean and reciprocal deviation are read off the block the call is given. -/
module
public import proofs.«01_k».proof.Proof.NormQuantTile
public import Idealize.ShloMosaic.Lib.ValueLayout
@[expose] public section
set_option maxRecDepth 16384
noncomputable section
open Idealize.ShloMosaic Idealize.ShloMosaic.TcCoe Idealize.SL.Sem
open scoped BigOperators
namespace Cert.NormQuantIdeal.RefValue
open Cert.NormQuantIdeal Cert.NormQuantIdeal.Gen

theorem oct_fold (a : FVec Ideal S128x128 .f32) :
    addf (addf (addf (addf (addf (addf (addf (addf (addf (addf (addf (addf (addf (addf (addf (extractStridedSlice S8x128 ![0, 0] a slices_S128x128_o0_0_S8x128) (extractStridedSlice S8x128 ![8, 0] a slices_S128x128_o8_0_S8x128)) (extractStridedSlice S8x128 ![16, 0] a slices_S128x128_o16_0_S8x128)) (extractStridedSlice S8x128 ![24, 0] a slices_S128x128_o24_0_S8x128)) (extractStridedSlice S8x128 ![32, 0] a slices_S128x128_o32_0_S8x128)) (extractStridedSlice S8x128 ![40, 0] a slices_S128x128_o40_0_S8x128)) (extractStridedSlice S8x128 ![48, 0] a slices_S128x128_o48_0_S8x128)) (extractStridedSlice S8x128 ![56, 0] a slices_S128x128_o56_0_S8x128)) (extractStridedSlice S8x128 ![64, 0] a slices_S128x128_o64_0_S8x128)) (extractStridedSlice S8x128 ![72, 0] a slices_S128x128_o72_0_S8x128)) (extractStridedSlice S8x128 ![80, 0] a slices_S128x128_o80_0_S8x128)) (extractStridedSlice S8x128 ![88, 0] a slices_S128x128_o88_0_S8x128)) (extractStridedSlice S8x128 ![96, 0] a slices_S128x128_o96_0_S8x128)) (extractStridedSlice S8x128 ![104, 0] a slices_S128x128_o104_0_S8x128)) (extractStridedSlice S8x128 ![112, 0] a slices_S128x128_o112_0_S8x128)) (extractStridedSlice S8x128 ![120, 0] a slices_S128x128_o120_0_S8x128) = oct a := rfl

theorem roll8_fold (i : NeZero S8x128.rank) (q : FVec Ideal S8x128 .f32) :
    addf (dynamicRotate (@OfNat.ofNat (Fin S8x128.rank) 0 (@Fin.instOfNat S8x128.rank i 0)) 1#32 (none : Option (ℕ × Fin 2)) (addf (dynamicRotate (@OfNat.ofNat (Fin S8x128.rank) 0 (@Fin.instOfNat S8x128.rank i 0)) 2#32 (none : Option (ℕ × Fin 2)) (addf (dynamicRotate (@OfNat.ofNat (Fin S8x128.rank) 0 (@Fin.instOfNat S8x128.rank i 0)) 4#32 (none : Option (ℕ × Fin 2)) q rotates_S8x128_d0) q) rotates_S8x128_d0) (addf (dynamicRotate (@OfNat.ofNat (Fin S8x128.rank) 0 (@Fin.instOfNat S8x128.rank i 0)) 4#32 (none : Option (ℕ × Fin 2)) q rotates_S8x128_d0) q)) rotates_S8x128_d0) (addf (dynamicRotate (@OfNat.ofNat (Fin S8x128.rank) 0 (@Fin.instOfNat S8x128.rank i 0)) 2#32 (none : Option (ℕ × Fin 2)) (addf (dynamicRotate (@OfNat.ofNat (Fin S8x128.rank) 0 (@Fin.instOfNat S8x128.rank i 0)) 4#32 (none : Option (ℕ × Fin 2)) q rotates_S8x128_d0) q) rotates_S8x128_d0) (addf (dynamicRotate (@OfNat.ofNat (Fin S8x128.rank) 0 (@Fin.instOfNat S8x128.rank i 0)) 4#32 (none : Option (ℕ × Fin 2)) q rotates_S8x128_d0) q)) = roll8 q := rfl

/-- A tile transposed. -/
def tr (a : FVec Ideal S128x128 .f32) : FVec Ideal S128x128 .f32 := transpose S128x128 [1, 0] a transposes_S128x128_p1_0_S128x128

theorem tr_fold (l : List (Fin S128x128.rank)) (hl : l.map Fin.val = [1, 0]) (a : FVec Ideal S128x128 .f32) (h : S128x128.Transposes l S128x128) :
    transpose S128x128 l a h = tr a := by
  obtain rfl : l = [1, 0] := List.map_injective_iff.mpr Fin.val_injective hl
  rfl

theorem spread_fold (k : Fin S128x128.rank) (hk : k.val = 0) (q : FVec Ideal S8x128 .f32)
    (h : Shape.Concatenates (([⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩] : List ((s : Shape) × (s.Idx → Ideal .f32))).map (·.1)) S128x128 k) :
    tr (concatenate S128x128 k [⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩, ⟨S8x128, q⟩] h) = spread q := by
  obtain rfl : k = 0 := Fin.ext hk
  rfl

theorem tile_fold (x : FVec Ideal S128x128 .bf16) :
    extf .f32 (shapeCast S128x128 x shapeCasts_S128x128_S128x128) bitsLt_bf16_f32 = tile x := rfl

theorem dist_fold (μ : FVec Ideal S128x128 .f32) (x : FVec Ideal S128x128 .bf16) :
    mulf (subf (tile x) μ) (subf (tile x) μ) = dist μ x := rfl

theorem mean_fold (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16) :
    mulf (spread (addf (roll8 (oct (tr (addf (addf (addf (addf (addf (addf (addf (addf (addf (addf (addf (addf (addf (addf (addf (tile x32) (tile x33)) (tile x34)) (tile x35)) (tile x36)) (tile x37)) (tile x38)) (tile x39)) (tile x40)) (tile x41)) (tile x42)) (tile x43)) (tile x44)) (tile x45)) (tile x46)) (tile x47))))) (addf (roll8 (oct (tr (addf (addf (addf (addf (addf (addf (addf (addf (addf (addf (addf (addf (addf (addf (addf (tile x16) (tile x17)) (tile x18)) (tile x19)) (tile x20)) (tile x21)) (tile x22)) (tile x23)) (tile x24)) (tile x25)) (tile x26)) (tile x27)) (tile x28)) (tile x29)) (tile x30)) (tile x31))))) (roll8 (oct (tr (addf (addf (addf (addf (addf (addf (addf (addf (addf (addf (addf (addf (addf (addf (addf (tile x0) (tile x1)) (tile x2)) (tile x3)) (tile x4)) (tile x5)) (tile x6)) (tile x7)) (tile x8)) (tile x9)) (tile x10)) (tile x11)) (tile x12)) (tile x13)) (tile x14)) (tile x15)))))))) (broadcast S128x128 (Named.named κ "inv_6144" 0x392AAAAB#32)) = meanV x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 := rfl

theorem rstd_fold (μ : FVec Ideal S128x128 .f32) (x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 : FVec Ideal S128x128 .bf16) :
    rsqrt (addf (mulf (spread (addf (roll8 (oct (tr (addf (addf (addf (addf (addf (addf (addf (addf (addf (addf (addf (addf (addf (addf (addf (dist μ x32) (dist μ x33)) (dist μ x34)) (dist μ x35)) (dist μ x36)) (dist μ x37)) (dist μ x38)) (dist μ x39)) (dist μ x40)) (dist μ x41)) (dist μ x42)) (dist μ x43)) (dist μ x44)) (dist μ x45)) (dist μ x46)) (dist μ x47))))) (addf (roll8 (oct (tr (addf (addf (addf (addf (addf (addf (addf (addf (addf (addf (addf (addf (addf (addf (addf (dist μ x16) (dist μ x17)) (dist μ x18)) (dist μ x19)) (dist μ x20)) (dist μ x21)) (dist μ x22)) (dist μ x23)) (dist μ x24)) (dist μ x25)) (dist μ x26)) (dist μ x27)) (dist μ x28)) (dist μ x29)) (dist μ x30)) (dist μ x31))))) (roll8 (oct (tr (addf (addf (addf (addf (addf (addf (addf (addf (addf (addf (addf (addf (addf (addf (addf (dist μ x0) (dist μ x1)) (dist μ x2)) (dist μ x3)) (dist μ x4)) (dist μ x5)) (dist μ x6)) (dist μ x7)) (dist μ x8)) (dist μ x9)) (dist μ x10)) (dist μ x11)) (dist μ x12)) (dist μ x13)) (dist μ x14)) (dist μ x15)))))))) (broadcast S128x128 (Named.named κ "inv_6144" 0x392AAAAB#32))) (broadcast S128x128 (Scalar.ofBits .f32 0x358637BD#32))) = rstdV μ x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 := rfl

/-- The rows of a block. -/
def rowB (B : FVec Ideal S128x6144 .bf16) : Fin 128 → Fin 6144 → EReal := fun p k => B (ix2 p k)

theorem mean_ld (B : FVec Ideal S128x6144 .bf16) : meanV
    (View.ld (Val := Elt Ideal) (e' := .bf16) B (Rect.unit (s := S128x6144) ![0, 0] ![128, 128] inb_S128x6144_S128x128_0_0))
    (View.ld (Val := Elt Ideal) (e' := .bf16) B (Rect.unit (s := S128x6144) ![0, 128] ![128, 128] inb_S128x6144_S128x128_0_128))
    (View.ld (Val := Elt Ideal) (e' := .bf16) B (Rect.unit (s := S128x6144) ![0, 256] ![128, 128] inb_S128x6144_S128x128_0_256))
    (View.ld (Val := Elt Ideal) (e' := .bf16) B (Rect.unit (s := S128x6144) ![0, 384] ![128, 128] inb_S128x6144_S128x128_0_384))
    (View.ld (Val := Elt Ideal) (e' := .bf16) B (Rect.unit (s := S128x6144) ![0, 512] ![128, 128] inb_S128x6144_S128x128_0_512))
    (View.ld (Val := Elt Ideal) (e' := .bf16) B (Rect.unit (s := S128x6144) ![0, 640] ![128, 128] inb_S128x6144_S128x128_0_640))
    (View.ld (Val := Elt Ideal) (e' := .bf16) B (Rect.unit (s := S128x6144) ![0, 768] ![128, 128] inb_S128x6144_S128x128_0_768))
    (View.ld (Val := Elt Ideal) (e' := .bf16) B (Rect.unit (s := S128x6144) ![0, 896] ![128, 128] inb_S128x6144_S128x128_0_896))
    (View.ld (Val := Elt Ideal) (e' := .bf16) B (Rect.unit (s := S128x6144) ![0, 1024] ![128, 128] inb_S128x6144_S128x128_0_1024))
    (View.ld (Val := Elt Ideal) (e' := .bf16) B (Rect.unit (s := S128x6144) ![0, 1152] ![128, 128] inb_S128x6144_S128x128_0_1152))
    (View.ld (Val := Elt Ideal) (e' := .bf16) B (Rect.unit (s := S128x6144) ![0, 1280] ![128, 128] inb_S128x6144_S128x128_0_1280))
    (View.ld (Val := Elt Ideal) (e' := .bf16) B (Rect.unit (s := S128x6144) ![0, 1408] ![128, 128] inb_S128x6144_S128x128_0_1408))
    (View.ld (Val := Elt Ideal) (e' := .bf16) B (Rect.unit (s := S128x6144) ![0, 1536] ![128, 128] inb_S128x6144_S128x128_0_1536))
    (View.ld (Val := Elt Ideal) (e' := .bf16) B (Rect.unit (s := S128x6144) ![0, 1664] ![128, 128] inb_S128x6144_S128x128_0_1664))
    (View.ld (Val := Elt Ideal) (e' := .bf16) B (Rect.unit (s := S128x6144) ![0, 1792] ![128, 128] inb_S128x6144_S128x128_0_1792))
    (View.ld (Val := Elt Ideal) (e' := .bf16) B (Rect.unit (s := S128x6144) ![0, 1920] ![128, 128] inb_S128x6144_S128x128_0_1920))
    (View.ld (Val := Elt Ideal) (e' := .bf16) B (Rect.unit (s := S128x6144) ![0, 2048] ![128, 128] inb_S128x6144_S128x128_0_2048))
    (View.ld (Val := Elt Ideal) (e' := .bf16) B (Rect.unit (s := S128x6144) ![0, 2176] ![128, 128] inb_S128x6144_S128x128_0_2176))
    (View.ld (Val := Elt Ideal) (e' := .bf16) B (Rect.unit (s := S128x6144) ![0, 2304] ![128, 128] inb_S128x6144_S128x128_0_2304))
    (View.ld (Val := Elt Ideal) (e' := .bf16) B (Rect.unit (s := S128x6144) ![0, 2432] ![128, 128] inb_S128x6144_S128x128_0_2432))
    (View.ld (Val := Elt Ideal) (e' := .bf16) B (Rect.unit (s := S128x6144) ![0, 2560] ![128, 128] inb_S128x6144_S128x128_0_2560))
    (View.ld (Val := Elt Ideal) (e' := .bf16) B (Rect.unit (s := S128x6144) ![0, 2688] ![128, 128] inb_S128x6144_S128x128_0_2688))
    (View.ld (Val := Elt Ideal) (e' := .bf16) B (Rect.unit (s := S128x6144) ![0, 2816] ![128, 128] inb_S128x6144_S128x128_0_2816))
    (View.ld (Val := Elt Ideal) (e' := .bf16) B (Rect.unit (s := S128x6144) ![0, 2944] ![128, 128] inb_S128x6144_S128x128_0_2944))
    (View.ld (Val := Elt Ideal) (e' := .bf16) B (Rect.unit (s := S128x6144) ![0, 3072] ![128, 128] inb_S128x6144_S128x128_0_3072))
    (View.ld (Val := Elt Ideal) (e' := .bf16) B (Rect.unit (s := S128x6144) ![0, 3200] ![128, 128] inb_S128x6144_S128x128_0_3200))
    (View.ld (Val := Elt Ideal) (e' := .bf16) B (Rect.unit (s := S128x6144) ![0, 3328] ![128, 128] inb_S128x6144_S128x128_0_3328))
    (View.ld (Val := Elt Ideal) (e' := .bf16) B (Rect.unit (s := S128x6144) ![0, 3456] ![128, 128] inb_S128x6144_S128x128_0_3456))
    (View.ld (Val := Elt Ideal) (e' := .bf16) B (Rect.unit (s := S128x6144) ![0, 3584] ![128, 128] inb_S128x6144_S128x128_0_3584))
    (View.ld (Val := Elt Ideal) (e' := .bf16) B (Rect.unit (s := S128x6144) ![0, 3712] ![128, 128] inb_S128x6144_S128x128_0_3712))
    (View.ld (Val := Elt Ideal) (e' := .bf16) B (Rect.unit (s := S128x6144) ![0, 3840] ![128, 128] inb_S128x6144_S128x128_0_3840))
    (View.ld (Val := Elt Ideal) (e' := .bf16) B (Rect.unit (s := S128x6144) ![0, 3968] ![128, 128] inb_S128x6144_S128x128_0_3968))
    (View.ld (Val := Elt Ideal) (e' := .bf16) B (Rect.unit (s := S128x6144) ![0, 4096] ![128, 128] inb_S128x6144_S128x128_0_4096))
    (View.ld (Val := Elt Ideal) (e' := .bf16) B (Rect.unit (s := S128x6144) ![0, 4224] ![128, 128] inb_S128x6144_S128x128_0_4224))
    (View.ld (Val := Elt Ideal) (e' := .bf16) B (Rect.unit (s := S128x6144) ![0, 4352] ![128, 128] inb_S128x6144_S128x128_0_4352))
    (View.ld (Val := Elt Ideal) (e' := .bf16) B (Rect.unit (s := S128x6144) ![0, 4480] ![128, 128] inb_S128x6144_S128x128_0_4480))
    (View.ld (Val := Elt Ideal) (e' := .bf16) B (Rect.unit (s := S128x6144) ![0, 4608] ![128, 128] inb_S128x6144_S128x128_0_4608))
    (View.ld (Val := Elt Ideal) (e' := .bf16) B (Rect.unit (s := S128x6144) ![0, 4736] ![128, 128] inb_S128x6144_S128x128_0_4736))
    (View.ld (Val := Elt Ideal) (e' := .bf16) B (Rect.unit (s := S128x6144) ![0, 4864] ![128, 128] inb_S128x6144_S128x128_0_4864))
    (View.ld (Val := Elt Ideal) (e' := .bf16) B (Rect.unit (s := S128x6144) ![0, 4992] ![128, 128] inb_S128x6144_S128x128_0_4992))
    (View.ld (Val := Elt Ideal) (e' := .bf16) B (Rect.unit (s := S128x6144) ![0, 5120] ![128, 128] inb_S128x6144_S128x128_0_5120))
    (View.ld (Val := Elt Ideal) (e' := .bf16) B (Rect.unit (s := S128x6144) ![0, 5248] ![128, 128] inb_S128x6144_S128x128_0_5248))
    (View.ld (Val := Elt Ideal) (e' := .bf16) B (Rect.unit (s := S128x6144) ![0, 5376] ![128, 128] inb_S128x6144_S128x128_0_5376))
    (View.ld (Val := Elt Ideal) (e' := .bf16) B (Rect.unit (s := S128x6144) ![0, 5504] ![128, 128] inb_S128x6144_S128x128_0_5504))
    (View.ld (Val := Elt Ideal) (e' := .bf16) B (Rect.unit (s := S128x6144) ![0, 5632] ![128, 128] inb_S128x6144_S128x128_0_5632))
    (View.ld (Val := Elt Ideal) (e' := .bf16) B (Rect.unit (s := S128x6144) ![0, 5760] ![128, 128] inb_S128x6144_S128x128_0_5760))
    (View.ld (Val := Elt Ideal) (e' := .bf16) B (Rect.unit (s := S128x6144) ![0, 5888] ![128, 128] inb_S128x6144_S128x128_0_5888))
    (View.ld (Val := Elt Ideal) (e' := .bf16) B (Rect.unit (s := S128x6144) ![0, 6016] ![128, 128] inb_S128x6144_S128x128_0_6016))
    = meanF (rowB B) :=
  meanV_eq (rowB B) _ _ _ _ _ _ _ _ _ _ _ _ _ _ _ _ _ _ _ _ _ _ _ _ _ _ _ _ _ _ _ _ _ _ _ _ _ _ _ _ _ _ _ _ _ _ _ _
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])

theorem rstd_ld (B : FVec Ideal S128x6144 .bf16) : rstdV (meanF (rowB B))
    (View.ld (Val := Elt Ideal) (e' := .bf16) B (Rect.unit (s := S128x6144) ![0, 0] ![128, 128] inb_S128x6144_S128x128_0_0))
    (View.ld (Val := Elt Ideal) (e' := .bf16) B (Rect.unit (s := S128x6144) ![0, 128] ![128, 128] inb_S128x6144_S128x128_0_128))
    (View.ld (Val := Elt Ideal) (e' := .bf16) B (Rect.unit (s := S128x6144) ![0, 256] ![128, 128] inb_S128x6144_S128x128_0_256))
    (View.ld (Val := Elt Ideal) (e' := .bf16) B (Rect.unit (s := S128x6144) ![0, 384] ![128, 128] inb_S128x6144_S128x128_0_384))
    (View.ld (Val := Elt Ideal) (e' := .bf16) B (Rect.unit (s := S128x6144) ![0, 512] ![128, 128] inb_S128x6144_S128x128_0_512))
    (View.ld (Val := Elt Ideal) (e' := .bf16) B (Rect.unit (s := S128x6144) ![0, 640] ![128, 128] inb_S128x6144_S128x128_0_640))
    (View.ld (Val := Elt Ideal) (e' := .bf16) B (Rect.unit (s := S128x6144) ![0, 768] ![128, 128] inb_S128x6144_S128x128_0_768))
    (View.ld (Val := Elt Ideal) (e' := .bf16) B (Rect.unit (s := S128x6144) ![0, 896] ![128, 128] inb_S128x6144_S128x128_0_896))
    (View.ld (Val := Elt Ideal) (e' := .bf16) B (Rect.unit (s := S128x6144) ![0, 1024] ![128, 128] inb_S128x6144_S128x128_0_1024))
    (View.ld (Val := Elt Ideal) (e' := .bf16) B (Rect.unit (s := S128x6144) ![0, 1152] ![128, 128] inb_S128x6144_S128x128_0_1152))
    (View.ld (Val := Elt Ideal) (e' := .bf16) B (Rect.unit (s := S128x6144) ![0, 1280] ![128, 128] inb_S128x6144_S128x128_0_1280))
    (View.ld (Val := Elt Ideal) (e' := .bf16) B (Rect.unit (s := S128x6144) ![0, 1408] ![128, 128] inb_S128x6144_S128x128_0_1408))
    (View.ld (Val := Elt Ideal) (e' := .bf16) B (Rect.unit (s := S128x6144) ![0, 1536] ![128, 128] inb_S128x6144_S128x128_0_1536))
    (View.ld (Val := Elt Ideal) (e' := .bf16) B (Rect.unit (s := S128x6144) ![0, 1664] ![128, 128] inb_S128x6144_S128x128_0_1664))
    (View.ld (Val := Elt Ideal) (e' := .bf16) B (Rect.unit (s := S128x6144) ![0, 1792] ![128, 128] inb_S128x6144_S128x128_0_1792))
    (View.ld (Val := Elt Ideal) (e' := .bf16) B (Rect.unit (s := S128x6144) ![0, 1920] ![128, 128] inb_S128x6144_S128x128_0_1920))
    (View.ld (Val := Elt Ideal) (e' := .bf16) B (Rect.unit (s := S128x6144) ![0, 2048] ![128, 128] inb_S128x6144_S128x128_0_2048))
    (View.ld (Val := Elt Ideal) (e' := .bf16) B (Rect.unit (s := S128x6144) ![0, 2176] ![128, 128] inb_S128x6144_S128x128_0_2176))
    (View.ld (Val := Elt Ideal) (e' := .bf16) B (Rect.unit (s := S128x6144) ![0, 2304] ![128, 128] inb_S128x6144_S128x128_0_2304))
    (View.ld (Val := Elt Ideal) (e' := .bf16) B (Rect.unit (s := S128x6144) ![0, 2432] ![128, 128] inb_S128x6144_S128x128_0_2432))
    (View.ld (Val := Elt Ideal) (e' := .bf16) B (Rect.unit (s := S128x6144) ![0, 2560] ![128, 128] inb_S128x6144_S128x128_0_2560))
    (View.ld (Val := Elt Ideal) (e' := .bf16) B (Rect.unit (s := S128x6144) ![0, 2688] ![128, 128] inb_S128x6144_S128x128_0_2688))
    (View.ld (Val := Elt Ideal) (e' := .bf16) B (Rect.unit (s := S128x6144) ![0, 2816] ![128, 128] inb_S128x6144_S128x128_0_2816))
    (View.ld (Val := Elt Ideal) (e' := .bf16) B (Rect.unit (s := S128x6144) ![0, 2944] ![128, 128] inb_S128x6144_S128x128_0_2944))
    (View.ld (Val := Elt Ideal) (e' := .bf16) B (Rect.unit (s := S128x6144) ![0, 3072] ![128, 128] inb_S128x6144_S128x128_0_3072))
    (View.ld (Val := Elt Ideal) (e' := .bf16) B (Rect.unit (s := S128x6144) ![0, 3200] ![128, 128] inb_S128x6144_S128x128_0_3200))
    (View.ld (Val := Elt Ideal) (e' := .bf16) B (Rect.unit (s := S128x6144) ![0, 3328] ![128, 128] inb_S128x6144_S128x128_0_3328))
    (View.ld (Val := Elt Ideal) (e' := .bf16) B (Rect.unit (s := S128x6144) ![0, 3456] ![128, 128] inb_S128x6144_S128x128_0_3456))
    (View.ld (Val := Elt Ideal) (e' := .bf16) B (Rect.unit (s := S128x6144) ![0, 3584] ![128, 128] inb_S128x6144_S128x128_0_3584))
    (View.ld (Val := Elt Ideal) (e' := .bf16) B (Rect.unit (s := S128x6144) ![0, 3712] ![128, 128] inb_S128x6144_S128x128_0_3712))
    (View.ld (Val := Elt Ideal) (e' := .bf16) B (Rect.unit (s := S128x6144) ![0, 3840] ![128, 128] inb_S128x6144_S128x128_0_3840))
    (View.ld (Val := Elt Ideal) (e' := .bf16) B (Rect.unit (s := S128x6144) ![0, 3968] ![128, 128] inb_S128x6144_S128x128_0_3968))
    (View.ld (Val := Elt Ideal) (e' := .bf16) B (Rect.unit (s := S128x6144) ![0, 4096] ![128, 128] inb_S128x6144_S128x128_0_4096))
    (View.ld (Val := Elt Ideal) (e' := .bf16) B (Rect.unit (s := S128x6144) ![0, 4224] ![128, 128] inb_S128x6144_S128x128_0_4224))
    (View.ld (Val := Elt Ideal) (e' := .bf16) B (Rect.unit (s := S128x6144) ![0, 4352] ![128, 128] inb_S128x6144_S128x128_0_4352))
    (View.ld (Val := Elt Ideal) (e' := .bf16) B (Rect.unit (s := S128x6144) ![0, 4480] ![128, 128] inb_S128x6144_S128x128_0_4480))
    (View.ld (Val := Elt Ideal) (e' := .bf16) B (Rect.unit (s := S128x6144) ![0, 4608] ![128, 128] inb_S128x6144_S128x128_0_4608))
    (View.ld (Val := Elt Ideal) (e' := .bf16) B (Rect.unit (s := S128x6144) ![0, 4736] ![128, 128] inb_S128x6144_S128x128_0_4736))
    (View.ld (Val := Elt Ideal) (e' := .bf16) B (Rect.unit (s := S128x6144) ![0, 4864] ![128, 128] inb_S128x6144_S128x128_0_4864))
    (View.ld (Val := Elt Ideal) (e' := .bf16) B (Rect.unit (s := S128x6144) ![0, 4992] ![128, 128] inb_S128x6144_S128x128_0_4992))
    (View.ld (Val := Elt Ideal) (e' := .bf16) B (Rect.unit (s := S128x6144) ![0, 5120] ![128, 128] inb_S128x6144_S128x128_0_5120))
    (View.ld (Val := Elt Ideal) (e' := .bf16) B (Rect.unit (s := S128x6144) ![0, 5248] ![128, 128] inb_S128x6144_S128x128_0_5248))
    (View.ld (Val := Elt Ideal) (e' := .bf16) B (Rect.unit (s := S128x6144) ![0, 5376] ![128, 128] inb_S128x6144_S128x128_0_5376))
    (View.ld (Val := Elt Ideal) (e' := .bf16) B (Rect.unit (s := S128x6144) ![0, 5504] ![128, 128] inb_S128x6144_S128x128_0_5504))
    (View.ld (Val := Elt Ideal) (e' := .bf16) B (Rect.unit (s := S128x6144) ![0, 5632] ![128, 128] inb_S128x6144_S128x128_0_5632))
    (View.ld (Val := Elt Ideal) (e' := .bf16) B (Rect.unit (s := S128x6144) ![0, 5760] ![128, 128] inb_S128x6144_S128x128_0_5760))
    (View.ld (Val := Elt Ideal) (e' := .bf16) B (Rect.unit (s := S128x6144) ![0, 5888] ![128, 128] inb_S128x6144_S128x128_0_5888))
    (View.ld (Val := Elt Ideal) (e' := .bf16) B (Rect.unit (s := S128x6144) ![0, 6016] ![128, 128] inb_S128x6144_S128x128_0_6016))
    = rstdF (meanF (rowB B)) (rowB B) :=
  rstdV_eq (meanF (rowB B)) (fun _ _ => rfl) (rowB B) _ _ _ _ _ _ _ _ _ _ _ _ _ _ _ _ _ _ _ _ _ _ _ _ _ _ _ _ _ _ _ _ _ _ _ _ _ _ _ _ _ _ _ _ _ _ _ _
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])
    (fun p l h => by pointwise [rowB])

/-- One tile of the modulated rows as the kernel computes it. -/
def outT (μ ρ : FVec Ideal S128x128 .f32) (a : FVec Ideal S1x1x128 .f32) (x : FVec Ideal S128x128 .bf16) (b : FVec Ideal S1x1x128 .f32) :
    FVec Ideal S128x128 .f32 :=
  addf (mulf (broadcastTo S128x128 (addf (broadcast S1x128 (Scalar.ofBits .f32 0x3F800000#32)) (shapeCast S1x128 a shapeCasts_S1x1x128_S1x128)) broadcasts_S1x128_S128x128)
    (mulf (subf (tile x) μ) ρ)) (broadcastTo S128x128 (shapeCast S1x128 b shapeCasts_S1x1x128_S1x128) broadcasts_S1x128_S128x128)

theorem outT_fold (μ ρ : FVec Ideal S128x128 .f32) (a : FVec Ideal S1x1x128 .f32) (x : FVec Ideal S128x128 .bf16) (b : FVec Ideal S1x1x128 .f32) :
    addf (mulf (broadcastTo S128x128 (addf (broadcast S1x128 (Scalar.ofBits .f32 0x3F800000#32)) (shapeCast S1x128 a shapeCasts_S1x1x128_S1x128)) broadcasts_S1x128_S128x128)
    (mulf (subf (tile x) μ) ρ)) (broadcastTo S128x128 (shapeCast S1x128 b shapeCasts_S1x1x128_S1x128) broadcasts_S1x128_S128x128) = outT μ ρ a x b := rfl

theorem outT_at (μ ρ : FVec Ideal S128x128 .f32) (a : FVec Ideal S1x1x128 .f32) (x : FVec Ideal S128x128 .bf16) (b : FVec Ideal S1x1x128 .f32) (p l : Fin 128) :
    outT μ ρ a x b (ix2 p l) = (1 + a (ix3 0 0 l)) * ((x (ix2 p l) - μ (ix2 p l)) * ρ (ix2 p l)) + b (ix3 0 0 l) := by
  pointwise [outT, tile]

/-- The modulated rows of a block: `(1 + A) * ((x - mean) * rstd) + B`. -/
def xmRow (A B : FVec Ideal S1x1x6144 .f32) (X : FVec Ideal S128x6144 .bf16) (p : Fin 128) (k : Fin 6144) : EReal :=
  (1 + A (ix3 (0 : Fin 1) (0 : Fin 1) k)) * ((X (ix2 p k) - meanF (rowB X) (ix2 p (0 : Fin 128))) * rstdF (meanF (rowB X)) (rowB X) (ix2 p (0 : Fin 128)))
    + B (ix3 (0 : Fin 1) (0 : Fin 1) k)

/-- The tile of `f` from column `o` on. -/
def rowTile (f : Fin 128 → Fin 6144 → EReal) (o : ℕ) (h : o + 128 ≤ 6144) : FVec Ideal S128x128 .f32 := fun i =>
  f (i 0) ⟨o + (i 1).val, Nat.lt_of_lt_of_le (Nat.add_lt_add_left (i 1).isLt o) h⟩

theorem rowTile_at (f : Fin 128 → Fin 6144 → EReal) (o : ℕ) (h : o + 128 ≤ 6144) (p l : Fin 128) :
    rowTile f o h (ix2 p l) = f p ⟨o + l.val, Nat.lt_of_lt_of_le (Nat.add_lt_add_left l.isLt o) h⟩ := rfl

theorem fits (o : ℕ) (h2 : ∀ i, (![0, o] : Fin 2 → ℕ) i + (![128, 128] : Fin 2 → ℕ) i ≤ S128x6144.size i) : o + 128 ≤ 6144 := h2 1

/-- A tile the kernel computes is a tile of the modulated rows. -/
theorem outT_ld (A B : FVec Ideal S1x1x6144 .f32) (X : FVec Ideal S128x6144 .bf16) (o : ℕ)
    (h1 : ∀ i, (![0, 0, o] : Fin 3 → ℕ) i + (![1, 1, 128] : Fin 3 → ℕ) i ≤ S1x1x6144.size i)
    (h2 : ∀ i, (![0, o] : Fin 2 → ℕ) i + (![128, 128] : Fin 2 → ℕ) i ≤ S128x6144.size i) :
    outT (meanF (rowB X)) (rstdF (meanF (rowB X)) (rowB X))
      (View.ld (Val := Elt Ideal) (e' := .f32) A (Rect.unit (s := S1x1x6144) ![0, 0, o] ![1, 1, 128] h1))
      (View.ld (Val := Elt Ideal) (e' := .bf16) X (Rect.unit (s := S128x6144) ![0, o] ![128, 128] h2))
      (View.ld (Val := Elt Ideal) (e' := .f32) B (Rect.unit (s := S1x1x6144) ![0, 0, o] ![1, 1, 128] h1)) = rowTile (xmRow A B X) o (fits o h2) := by
  funext i
  obtain ⟨p, l, rfl⟩ : ∃ (p l : Fin 128), i = ix2 p l := ⟨i 0, i 1, eq_ix2 i⟩
  rw [outT_at, rowTile_at]
  pointwise [xmRow, meanF, rstdF, rowB]

/-- The largest magnitude of a row. -/
def amax (f : Fin 128 → Fin 6144 → EReal) (p : Fin 128) : EReal :=
  (Finset.univ : Finset (Fin 6144)).fold max ⊥ fun k => max (f p k) (-f p k)

/-- The largest magnitude of each row, as a column. -/
def amaxV (f : Fin 128 → Fin 6144 → EReal) : FVec Ideal S128x1 .f32 := fun i => amax f (i 0)

theorem abs_nonneg (x : EReal) : 0 ≤ max x (-x) := by
  rcases le_total 0 x with h | h
  · exact le_max_of_le_left h
  · exact le_max_of_le_right (EReal.neg_nonneg.mpr h)

theorem abs_at (x : EReal) : (FloatOps.absf (F := Ideal) (φ := .f32) x : EReal) = max x (-x) := rfl

theorem bot_eq : Ideal.ofBits .f32 0xFF800000#32 = ⊥ := by simp [Ideal.ofBits, Ideal.ieee]

/-- The running elementwise maximum of the magnitudes of the 48 tiles of `f`, from zero. -/
def absChain (f : Fin 128 → Fin 6144 → EReal) : FVec Ideal S128x128 .f32 :=
  maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (broadcast S128x128 (FloatOps.ofBits (F := Ideal) .f32 0#32)) (absf (rowTile f 0 (by decide)))) (absf (rowTile f 128 (by decide)))) (absf (rowTile f 256 (by decide)))) (absf (rowTile f 384 (by decide)))) (absf (rowTile f 512 (by decide)))) (absf (rowTile f 640 (by decide)))) (absf (rowTile f 768 (by decide)))) (absf (rowTile f 896 (by decide)))) (absf (rowTile f 1024 (by decide)))) (absf (rowTile f 1152 (by decide)))) (absf (rowTile f 1280 (by decide)))) (absf (rowTile f 1408 (by decide)))) (absf (rowTile f 1536 (by decide)))) (absf (rowTile f 1664 (by decide)))) (absf (rowTile f 1792 (by decide)))) (absf (rowTile f 1920 (by decide)))) (absf (rowTile f 2048 (by decide)))) (absf (rowTile f 2176 (by decide)))) (absf (rowTile f 2304 (by decide)))) (absf (rowTile f 2432 (by decide)))) (absf (rowTile f 2560 (by decide)))) (absf (rowTile f 2688 (by decide)))) (absf (rowTile f 2816 (by decide)))) (absf (rowTile f 2944 (by decide)))) (absf (rowTile f 3072 (by decide)))) (absf (rowTile f 3200 (by decide)))) (absf (rowTile f 3328 (by decide)))) (absf (rowTile f 3456 (by decide)))) (absf (rowTile f 3584 (by decide)))) (absf (rowTile f 3712 (by decide)))) (absf (rowTile f 3840 (by decide)))) (absf (rowTile f 3968 (by decide)))) (absf (rowTile f 4096 (by decide)))) (absf (rowTile f 4224 (by decide)))) (absf (rowTile f 4352 (by decide)))) (absf (rowTile f 4480 (by decide)))) (absf (rowTile f 4608 (by decide)))) (absf (rowTile f 4736 (by decide)))) (absf (rowTile f 4864 (by decide)))) (absf (rowTile f 4992 (by decide)))) (absf (rowTile f 5120 (by decide)))) (absf (rowTile f 5248 (by decide)))) (absf (rowTile f 5376 (by decide)))) (absf (rowTile f 5504 (by decide)))) (absf (rowTile f 5632 (by decide)))) (absf (rowTile f 5760 (by decide)))) (absf (rowTile f 5888 (by decide)))) (absf (rowTile f 6016 (by decide)))

theorem absChain_fold (f : Fin 128 → Fin 6144 → EReal) : maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (broadcast S128x128 (FloatOps.ofBits (F := Ideal) .f32 0#32)) (absf (rowTile f 0 (by decide)))) (absf (rowTile f 128 (by decide)))) (absf (rowTile f 256 (by decide)))) (absf (rowTile f 384 (by decide)))) (absf (rowTile f 512 (by decide)))) (absf (rowTile f 640 (by decide)))) (absf (rowTile f 768 (by decide)))) (absf (rowTile f 896 (by decide)))) (absf (rowTile f 1024 (by decide)))) (absf (rowTile f 1152 (by decide)))) (absf (rowTile f 1280 (by decide)))) (absf (rowTile f 1408 (by decide)))) (absf (rowTile f 1536 (by decide)))) (absf (rowTile f 1664 (by decide)))) (absf (rowTile f 1792 (by decide)))) (absf (rowTile f 1920 (by decide)))) (absf (rowTile f 2048 (by decide)))) (absf (rowTile f 2176 (by decide)))) (absf (rowTile f 2304 (by decide)))) (absf (rowTile f 2432 (by decide)))) (absf (rowTile f 2560 (by decide)))) (absf (rowTile f 2688 (by decide)))) (absf (rowTile f 2816 (by decide)))) (absf (rowTile f 2944 (by decide)))) (absf (rowTile f 3072 (by decide)))) (absf (rowTile f 3200 (by decide)))) (absf (rowTile f 3328 (by decide)))) (absf (rowTile f 3456 (by decide)))) (absf (rowTile f 3584 (by decide)))) (absf (rowTile f 3712 (by decide)))) (absf (rowTile f 3840 (by decide)))) (absf (rowTile f 3968 (by decide)))) (absf (rowTile f 4096 (by decide)))) (absf (rowTile f 4224 (by decide)))) (absf (rowTile f 4352 (by decide)))) (absf (rowTile f 4480 (by decide)))) (absf (rowTile f 4608 (by decide)))) (absf (rowTile f 4736 (by decide)))) (absf (rowTile f 4864 (by decide)))) (absf (rowTile f 4992 (by decide)))) (absf (rowTile f 5120 (by decide)))) (absf (rowTile f 5248 (by decide)))) (absf (rowTile f 5376 (by decide)))) (absf (rowTile f 5504 (by decide)))) (absf (rowTile f 5632 (by decide)))) (absf (rowTile f 5760 (by decide)))) (absf (rowTile f 5888 (by decide)))) (absf (rowTile f 6016 (by decide))) = absChain f := rfl

theorem absChain_max (f : Fin 128 → Fin 6144 → EReal) (p : Fin 128) :
    (Finset.univ : Finset (Fin 128)).fold max ⊥ (fun l : Fin 128 => absChain f (ix2 p l)) = amax f p := by
  refine Eq.trans ?_ (max48 (fun k => max (f p k) (-f p k)) (fun k => abs_nonneg _))
  refine Finset.fold_congr fun x _ => ?_
  pointwise [absChain]
  iterate 47 refine congrArg₂ max ?_ rfl
  exact congrArg₂ max rfl (congrArg (fun k => max (f p k) (-f p k)) (Fin.ext (Nat.zero_add _)))

/-- The rows of `f` as one block. -/
def full (f : Fin 128 → Fin 6144 → EReal) : FVec Ideal S128x6144 .f32 := fun i => f (i 0) (i 1)

/-- A stored tile is a piece of the block of `f`. -/
theorem piece_at (f : Fin 128 → Fin 6144 → EReal) (o : ℕ) (h : o + 128 ≤ 6144)
    (inb : ∀ i, (![0, o] : Fin 2 → ℕ) i + (![128, 128] : Fin 2 → ℕ) i ≤ S128x6144.size i) (x : S128x128.Idx) :
    shapeCast S128x128 (rowTile f o h) shapeCasts_S128x128_S128x128 x = full f ((Rect.unit (s := S128x6144) ![0, o] ![128, 128] inb).emb x) := by
  obtain ⟨p, l, rfl⟩ : ∃ (p l : Fin 128), x = ix2 p l := ⟨x 0, x 1, eq_ix2 x⟩
  pointwise [full, rowTile]
  exact congrArg₂ f (Fin.ext (show p.val = 0 + 1 * p.val by omega)) (Fin.ext (show o + l.val = o + 1 * l.val by omega))

/-- Tiles of `f` that cover the block leave the block of `f`. -/
theorem full_read {sig' : RefSig} {κ' : Kind} {sp : Space} (v : View sig' κ' sp S128x6144 .f32) (f : Fin 128 → Fin 6144 → EReal)
    (L : List (View.Piece (Elt Ideal) S128x6144 .f32)) (hL : View.PiecesOf (full f) L) (hc : View.Piece.tiled L ![128, 128] = true)
    (inb : ∀ i, (![0, 0] : Fin 2 → ℕ) i + (![128, 6144] : Fin 2 → ℕ) i ≤ S128x6144.size i) :
    v.readCov L (Rect.unit (s := S128x6144) ![0, 0] ![128, 6144] inb).toLoadRect = full f := by
  rw [View.readCov_eq_canon']
  funext j
  rw [View.canon_apply_of_pieces (full f) L hL.mem _ (View.cover_of_tiled L ![128, 128] hc _)]
  refine congrArg (full f) ?_
  funext a
  fin_cases a <;> exact Fin.ext (by simp [Rect.unit])

/-- The scale of a row. -/
def scaleRow (f : Fin 128 → Fin 6144 → EReal) (p : Fin 128) : EReal := if amax f p = 0 then 1 else amax f p * ((1 / 448 : ℝ) : EReal)

/-- The code of one entry of a row. -/
def codeRow (f : Fin 128 → Fin 6144 → EReal) (p : Fin 128) (k : Fin 6144) : EReal :=
  min (Ideal.ofBits .f32 0x43E00000#32) (max (Ideal.ofBits .f32 0xC3E00000#32) (Ideal.div (f p k) (scaleRow f p)))

theorem inv_448_eq : Named.named (F := Ideal) (φ := .f32) κ "inv_448" 991054117#32 = ((1 / 448 : ℝ) : EReal) :=
  IdealRules.named_const.ideal_named_scalar _ _ _ _ rfl

end Cert.NormQuantIdeal.RefValue

end
-- ==== Proof.NormQuantBlock.lean ====
/- What one grid point of the norm_quant kernel leaves in its three output blocks, in terms of the blocks it is given. -/
module
public import proofs.«01_k».proof.Proof.Gen.NormQuantIdeal.Frame
public import proofs.«01_k».proof.Proof.NormQuantFold
public import Idealize.ShloMosaic.Lib.Pipeline.ReadBack
@[expose] public section
set_option maxRecDepth 16384
noncomputable section
open Idealize.ShloMosaic Idealize.ShloMosaic.TcCoe Idealize.SL.Sem
open scoped BigOperators
namespace Cert.NormQuantIdeal.RefValue
open Cert.NormQuantIdeal Cert.NormQuantIdeal.Gen
variable (m : (ℓ : Loc nD τ sig) → Buf (Elt Ideal) ℓ)

set_option maxHeartbeats 0

/-- A point's codes. -/
theorem codes_block (c : Dev nD) (t : Fin cfg0.N) (p : Fin 128) (k : Fin 6144) : (show FVec Ideal S128x6144 .fp8e4m3 from (outsAt0 m c t).1) (ix2 p k) = codeRow (xmRow (iblk m c 2 t) (iblk m c 1 t) (iblk m c 0 t)) p k := by
  simp only [outsAt0]; frame_out
  simp (disch := decide) only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, oct_fold, roll8_fold, tr_fold, spread_fold, tile_fold, dist_fold]
  simp only [mean_fold]
  simp only [mean_ld]
  simp only [rstd_fold]
  simp only [rstd_ld]
  simp only [outT_fold]
  simp only [outT_ld]
  try simp only [absChain_fold]

  refine (congrArg (fun v => k0_pay2 v _ _ _ (ix2 p k)) (full_read _ (xmRow (iblk m c 2 t) (iblk m c 1 t) (iblk m c 0 t)) _ ?_ ?_ _)).trans ?_
  · exact ⟨fun x => piece_at (xmRow (iblk m c 2 t) (iblk m c 1 t) (iblk m c 0 t)) 6016 (by decide) inb_S128x6144_S128x128_0_6016 x, fun x => piece_at (xmRow (iblk m c 2 t) (iblk m c 1 t) (iblk m c 0 t)) 5888 (by decide) inb_S128x6144_S128x128_0_5888 x, fun x => piece_at (xmRow (iblk m c 2 t) (iblk m c 1 t) (iblk m c 0 t)) 5760 (by decide) inb_S128x6144_S128x128_0_5760 x, fun x => piece_at (xmRow (iblk m c 2 t) (iblk m c 1 t) (iblk m c 0 t)) 5632 (by decide) inb_S128x6144_S128x128_0_5632 x, fun x => piece_at (xmRow (iblk m c 2 t) (iblk m c 1 t) (iblk m c 0 t)) 5504 (by decide) inb_S128x6144_S128x128_0_5504 x, fun x => piece_at (xmRow (iblk m c 2 t) (iblk m c 1 t) (iblk m c 0 t)) 5376 (by decide) inb_S128x6144_S128x128_0_5376 x, fun x => piece_at (xmRow (iblk m c 2 t) (iblk m c 1 t) (iblk m c 0 t)) 5248 (by decide) inb_S128x6144_S128x128_0_5248 x, fun x => piece_at (xmRow (iblk m c 2 t) (iblk m c 1 t) (iblk m c 0 t)) 5120 (by decide) inb_S128x6144_S128x128_0_5120 x, fun x => piece_at (xmRow (iblk m c 2 t) (iblk m c 1 t) (iblk m c 0 t)) 4992 (by decide) inb_S128x6144_S128x128_0_4992 x, fun x => piece_at (xmRow (iblk m c 2 t) (iblk m c 1 t) (iblk m c 0 t)) 4864 (by decide) inb_S128x6144_S128x128_0_4864 x, fun x => piece_at (xmRow (iblk m c 2 t) (iblk m c 1 t) (iblk m c 0 t)) 4736 (by decide) inb_S128x6144_S128x128_0_4736 x, fun x => piece_at (xmRow (iblk m c 2 t) (iblk m c 1 t) (iblk m c 0 t)) 4608 (by decide) inb_S128x6144_S128x128_0_4608 x, fun x => piece_at (xmRow (iblk m c 2 t) (iblk m c 1 t) (iblk m c 0 t)) 4480 (by decide) inb_S128x6144_S128x128_0_4480 x, fun x => piece_at (xmRow (iblk m c 2 t) (iblk m c 1 t) (iblk m c 0 t)) 4352 (by decide) inb_S128x6144_S128x128_0_4352 x, fun x => piece_at (xmRow (iblk m c 2 t) (iblk m c 1 t) (iblk m c 0 t)) 4224 (by decide) inb_S128x6144_S128x128_0_4224 x, fun x => piece_at (xmRow (iblk m c 2 t) (iblk m c 1 t) (iblk m c 0 t)) 4096 (by decide) inb_S128x6144_S128x128_0_4096 x, fun x => piece_at (xmRow (iblk m c 2 t) (iblk m c 1 t) (iblk m c 0 t)) 3968 (by decide) inb_S128x6144_S128x128_0_3968 x, fun x => piece_at (xmRow (iblk m c 2 t) (iblk m c 1 t) (iblk m c 0 t)) 3840 (by decide) inb_S128x6144_S128x128_0_3840 x, fun x => piece_at (xmRow (iblk m c 2 t) (iblk m c 1 t) (iblk m c 0 t)) 3712 (by decide) inb_S128x6144_S128x128_0_3712 x, fun x => piece_at (xmRow (iblk m c 2 t) (iblk m c 1 t) (iblk m c 0 t)) 3584 (by decide) inb_S128x6144_S128x128_0_3584 x, fun x => piece_at (xmRow (iblk m c 2 t) (iblk m c 1 t) (iblk m c 0 t)) 3456 (by decide) inb_S128x6144_S128x128_0_3456 x, fun x => piece_at (xmRow (iblk m c 2 t) (iblk m c 1 t) (iblk m c 0 t)) 3328 (by decide) inb_S128x6144_S128x128_0_3328 x, fun x => piece_at (xmRow (iblk m c 2 t) (iblk m c 1 t) (iblk m c 0 t)) 3200 (by decide) inb_S128x6144_S128x128_0_3200 x, fun x => piece_at (xmRow (iblk m c 2 t) (iblk m c 1 t) (iblk m c 0 t)) 3072 (by decide) inb_S128x6144_S128x128_0_3072 x, fun x => piece_at (xmRow (iblk m c 2 t) (iblk m c 1 t) (iblk m c 0 t)) 2944 (by decide) inb_S128x6144_S128x128_0_2944 x, fun x => piece_at (xmRow (iblk m c 2 t) (iblk m c 1 t) (iblk m c 0 t)) 2816 (by decide) inb_S128x6144_S128x128_0_2816 x, fun x => piece_at (xmRow (iblk m c 2 t) (iblk m c 1 t) (iblk m c 0 t)) 2688 (by decide) inb_S128x6144_S128x128_0_2688 x, fun x => piece_at (xmRow (iblk m c 2 t) (iblk m c 1 t) (iblk m c 0 t)) 2560 (by decide) inb_S128x6144_S128x128_0_2560 x, fun x => piece_at (xmRow (iblk m c 2 t) (iblk m c 1 t) (iblk m c 0 t)) 2432 (by decide) inb_S128x6144_S128x128_0_2432 x, fun x => piece_at (xmRow (iblk m c 2 t) (iblk m c 1 t) (iblk m c 0 t)) 2304 (by decide) inb_S128x6144_S128x128_0_2304 x, fun x => piece_at (xmRow (iblk m c 2 t) (iblk m c 1 t) (iblk m c 0 t)) 2176 (by decide) inb_S128x6144_S128x128_0_2176 x, fun x => piece_at (xmRow (iblk m c 2 t) (iblk m c 1 t) (iblk m c 0 t)) 2048 (by decide) inb_S128x6144_S128x128_0_2048 x, fun x => piece_at (xmRow (iblk m c 2 t) (iblk m c 1 t) (iblk m c 0 t)) 1920 (by decide) inb_S128x6144_S128x128_0_1920 x, fun x => piece_at (xmRow (iblk m c 2 t) (iblk m c 1 t) (iblk m c 0 t)) 1792 (by decide) inb_S128x6144_S128x128_0_1792 x, fun x => piece_at (xmRow (iblk m c 2 t) (iblk m c 1 t) (iblk m c 0 t)) 1664 (by decide) inb_S128x6144_S128x128_0_1664 x, fun x => piece_at (xmRow (iblk m c 2 t) (iblk m c 1 t) (iblk m c 0 t)) 1536 (by decide) inb_S128x6144_S128x128_0_1536 x, fun x => piece_at (xmRow (iblk m c 2 t) (iblk m c 1 t) (iblk m c 0 t)) 1408 (by decide) inb_S128x6144_S128x128_0_1408 x, fun x => piece_at (xmRow (iblk m c 2 t) (iblk m c 1 t) (iblk m c 0 t)) 1280 (by decide) inb_S128x6144_S128x128_0_1280 x, fun x => piece_at (xmRow (iblk m c 2 t) (iblk m c 1 t) (iblk m c 0 t)) 1152 (by decide) inb_S128x6144_S128x128_0_1152 x, fun x => piece_at (xmRow (iblk m c 2 t) (iblk m c 1 t) (iblk m c 0 t)) 1024 (by decide) inb_S128x6144_S128x128_0_1024 x, fun x => piece_at (xmRow (iblk m c 2 t) (iblk m c 1 t) (iblk m c 0 t)) 896 (by decide) inb_S128x6144_S128x128_0_896 x, fun x => piece_at (xmRow (iblk m c 2 t) (iblk m c 1 t) (iblk m c 0 t)) 768 (by decide) inb_S128x6144_S128x128_0_768 x, fun x => piece_at (xmRow (iblk m c 2 t) (iblk m c 1 t) (iblk m c 0 t)) 640 (by decide) inb_S128x6144_S128x128_0_640 x, fun x => piece_at (xmRow (iblk m c 2 t) (iblk m c 1 t) (iblk m c 0 t)) 512 (by decide) inb_S128x6144_S128x128_0_512 x, fun x => piece_at (xmRow (iblk m c 2 t) (iblk m c 1 t) (iblk m c 0 t)) 384 (by decide) inb_S128x6144_S128x128_0_384 x, fun x => piece_at (xmRow (iblk m c 2 t) (iblk m c 1 t) (iblk m c 0 t)) 256 (by decide) inb_S128x6144_S128x128_0_256 x, fun x => piece_at (xmRow (iblk m c 2 t) (iblk m c 1 t) (iblk m c 0 t)) 128 (by decide) inb_S128x6144_S128x128_0_128 x, fun x => piece_at (xmRow (iblk m c 2 t) (iblk m c 1 t) (iblk m c 0 t)) 0 (by decide) inb_S128x6144_S128x128_0_0 x, trivial⟩
  · rfl
  pointwise [k0_pay2, k0_pay1, full]
  simp only [bot_eq, absChain_max, inv_448_eq, scaleRow, codeRow]

/-- A point's row scales. -/
theorem scale_block (c : Dev nD) (t : Fin cfg0.N) (p l : Fin 128) : (show FVec Ideal S128x128 .f32 from (outsAt0 m c t).2.1) (ix2 p l) = scaleRow (xmRow (iblk m c 2 t) (iblk m c 1 t) (iblk m c 0 t)) p := by
  frame_out
  simp (disch := decide) only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, oct_fold, roll8_fold, tr_fold, spread_fold, tile_fold, dist_fold]
  simp only [mean_fold]
  simp only [mean_ld]
  simp only [rstd_fold]
  simp only [rstd_ld]
  simp only [outT_fold]
  simp only [outT_ld]
  try simp only [absChain_fold]

  pointwise [k0_pay3, k0_pay1]
  simp only [bot_eq, absChain_max, inv_448_eq, scaleRow]

/-- A point's rows of the low-rank product. -/
theorem t_block (c : Dev nD) (t : Fin cfg0.N) (p : Fin 128) (k : Fin 32) : (show FVec Ideal S128x32 .bf16 from (outsAt0 m c t).2.2) (ix2 p k) = ∑ j : Fin 6144, xmRow (iblk m c 2 t) (iblk m c 1 t) (iblk m c 0 t) p j * (show FVec Ideal S32x6144 .bf16 from iblk m c 3 t) (ix2 k j) := by
  frame_out
  simp (disch := decide) only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, oct_fold, roll8_fold, tr_fold, spread_fold, tile_fold, dist_fold]
  simp only [mean_fold]
  simp only [mean_ld]
  simp only [rstd_fold]
  simp only [rstd_ld]
  simp only [outT_fold]
  simp only [outT_ld]
  try simp only [absChain_fold]

  refine (congrArg (fun v => k0_pay4 v _ (ix2 p k)) (full_read _ (xmRow (iblk m c 2 t) (iblk m c 1 t) (iblk m c 0 t)) _ ?_ ?_ _)).trans ?_
  · exact ⟨fun x => piece_at (xmRow (iblk m c 2 t) (iblk m c 1 t) (iblk m c 0 t)) 6016 (by decide) inb_S128x6144_S128x128_0_6016 x, fun x => piece_at (xmRow (iblk m c 2 t) (iblk m c 1 t) (iblk m c 0 t)) 5888 (by decide) inb_S128x6144_S128x128_0_5888 x, fun x => piece_at (xmRow (iblk m c 2 t) (iblk m c 1 t) (iblk m c 0 t)) 5760 (by decide) inb_S128x6144_S128x128_0_5760 x, fun x => piece_at (xmRow (iblk m c 2 t) (iblk m c 1 t) (iblk m c 0 t)) 5632 (by decide) inb_S128x6144_S128x128_0_5632 x, fun x => piece_at (xmRow (iblk m c 2 t) (iblk m c 1 t) (iblk m c 0 t)) 5504 (by decide) inb_S128x6144_S128x128_0_5504 x, fun x => piece_at (xmRow (iblk m c 2 t) (iblk m c 1 t) (iblk m c 0 t)) 5376 (by decide) inb_S128x6144_S128x128_0_5376 x, fun x => piece_at (xmRow (iblk m c 2 t) (iblk m c 1 t) (iblk m c 0 t)) 5248 (by decide) inb_S128x6144_S128x128_0_5248 x, fun x => piece_at (xmRow (iblk m c 2 t) (iblk m c 1 t) (iblk m c 0 t)) 5120 (by decide) inb_S128x6144_S128x128_0_5120 x, fun x => piece_at (xmRow (iblk m c 2 t) (iblk m c 1 t) (iblk m c 0 t)) 4992 (by decide) inb_S128x6144_S128x128_0_4992 x, fun x => piece_at (xmRow (iblk m c 2 t) (iblk m c 1 t) (iblk m c 0 t)) 4864 (by decide) inb_S128x6144_S128x128_0_4864 x, fun x => piece_at (xmRow (iblk m c 2 t) (iblk m c 1 t) (iblk m c 0 t)) 4736 (by decide) inb_S128x6144_S128x128_0_4736 x, fun x => piece_at (xmRow (iblk m c 2 t) (iblk m c 1 t) (iblk m c 0 t)) 4608 (by decide) inb_S128x6144_S128x128_0_4608 x, fun x => piece_at (xmRow (iblk m c 2 t) (iblk m c 1 t) (iblk m c 0 t)) 4480 (by decide) inb_S128x6144_S128x128_0_4480 x, fun x => piece_at (xmRow (iblk m c 2 t) (iblk m c 1 t) (iblk m c 0 t)) 4352 (by decide) inb_S128x6144_S128x128_0_4352 x, fun x => piece_at (xmRow (iblk m c 2 t) (iblk m c 1 t) (iblk m c 0 t)) 4224 (by decide) inb_S128x6144_S128x128_0_4224 x, fun x => piece_at (xmRow (iblk m c 2 t) (iblk m c 1 t) (iblk m c 0 t)) 4096 (by decide) inb_S128x6144_S128x128_0_4096 x, fun x => piece_at (xmRow (iblk m c 2 t) (iblk m c 1 t) (iblk m c 0 t)) 3968 (by decide) inb_S128x6144_S128x128_0_3968 x, fun x => piece_at (xmRow (iblk m c 2 t) (iblk m c 1 t) (iblk m c 0 t)) 3840 (by decide) inb_S128x6144_S128x128_0_3840 x, fun x => piece_at (xmRow (iblk m c 2 t) (iblk m c 1 t) (iblk m c 0 t)) 3712 (by decide) inb_S128x6144_S128x128_0_3712 x, fun x => piece_at (xmRow (iblk m c 2 t) (iblk m c 1 t) (iblk m c 0 t)) 3584 (by decide) inb_S128x6144_S128x128_0_3584 x, fun x => piece_at (xmRow (iblk m c 2 t) (iblk m c 1 t) (iblk m c 0 t)) 3456 (by decide) inb_S128x6144_S128x128_0_3456 x, fun x => piece_at (xmRow (iblk m c 2 t) (iblk m c 1 t) (iblk m c 0 t)) 3328 (by decide) inb_S128x6144_S128x128_0_3328 x, fun x => piece_at (xmRow (iblk m c 2 t) (iblk m c 1 t) (iblk m c 0 t)) 3200 (by decide) inb_S128x6144_S128x128_0_3200 x, fun x => piece_at (xmRow (iblk m c 2 t) (iblk m c 1 t) (iblk m c 0 t)) 3072 (by decide) inb_S128x6144_S128x128_0_3072 x, fun x => piece_at (xmRow (iblk m c 2 t) (iblk m c 1 t) (iblk m c 0 t)) 2944 (by decide) inb_S128x6144_S128x128_0_2944 x, fun x => piece_at (xmRow (iblk m c 2 t) (iblk m c 1 t) (iblk m c 0 t)) 2816 (by decide) inb_S128x6144_S128x128_0_2816 x, fun x => piece_at (xmRow (iblk m c 2 t) (iblk m c 1 t) (iblk m c 0 t)) 2688 (by decide) inb_S128x6144_S128x128_0_2688 x, fun x => piece_at (xmRow (iblk m c 2 t) (iblk m c 1 t) (iblk m c 0 t)) 2560 (by decide) inb_S128x6144_S128x128_0_2560 x, fun x => piece_at (xmRow (iblk m c 2 t) (iblk m c 1 t) (iblk m c 0 t)) 2432 (by decide) inb_S128x6144_S128x128_0_2432 x, fun x => piece_at (xmRow (iblk m c 2 t) (iblk m c 1 t) (iblk m c 0 t)) 2304 (by decide) inb_S128x6144_S128x128_0_2304 x, fun x => piece_at (xmRow (iblk m c 2 t) (iblk m c 1 t) (iblk m c 0 t)) 2176 (by decide) inb_S128x6144_S128x128_0_2176 x, fun x => piece_at (xmRow (iblk m c 2 t) (iblk m c 1 t) (iblk m c 0 t)) 2048 (by decide) inb_S128x6144_S128x128_0_2048 x, fun x => piece_at (xmRow (iblk m c 2 t) (iblk m c 1 t) (iblk m c 0 t)) 1920 (by decide) inb_S128x6144_S128x128_0_1920 x, fun x => piece_at (xmRow (iblk m c 2 t) (iblk m c 1 t) (iblk m c 0 t)) 1792 (by decide) inb_S128x6144_S128x128_0_1792 x, fun x => piece_at (xmRow (iblk m c 2 t) (iblk m c 1 t) (iblk m c 0 t)) 1664 (by decide) inb_S128x6144_S128x128_0_1664 x, fun x => piece_at (xmRow (iblk m c 2 t) (iblk m c 1 t) (iblk m c 0 t)) 1536 (by decide) inb_S128x6144_S128x128_0_1536 x, fun x => piece_at (xmRow (iblk m c 2 t) (iblk m c 1 t) (iblk m c 0 t)) 1408 (by decide) inb_S128x6144_S128x128_0_1408 x, fun x => piece_at (xmRow (iblk m c 2 t) (iblk m c 1 t) (iblk m c 0 t)) 1280 (by decide) inb_S128x6144_S128x128_0_1280 x, fun x => piece_at (xmRow (iblk m c 2 t) (iblk m c 1 t) (iblk m c 0 t)) 1152 (by decide) inb_S128x6144_S128x128_0_1152 x, fun x => piece_at (xmRow (iblk m c 2 t) (iblk m c 1 t) (iblk m c 0 t)) 1024 (by decide) inb_S128x6144_S128x128_0_1024 x, fun x => piece_at (xmRow (iblk m c 2 t) (iblk m c 1 t) (iblk m c 0 t)) 896 (by decide) inb_S128x6144_S128x128_0_896 x, fun x => piece_at (xmRow (iblk m c 2 t) (iblk m c 1 t) (iblk m c 0 t)) 768 (by decide) inb_S128x6144_S128x128_0_768 x, fun x => piece_at (xmRow (iblk m c 2 t) (iblk m c 1 t) (iblk m c 0 t)) 640 (by decide) inb_S128x6144_S128x128_0_640 x, fun x => piece_at (xmRow (iblk m c 2 t) (iblk m c 1 t) (iblk m c 0 t)) 512 (by decide) inb_S128x6144_S128x128_0_512 x, fun x => piece_at (xmRow (iblk m c 2 t) (iblk m c 1 t) (iblk m c 0 t)) 384 (by decide) inb_S128x6144_S128x128_0_384 x, fun x => piece_at (xmRow (iblk m c 2 t) (iblk m c 1 t) (iblk m c 0 t)) 256 (by decide) inb_S128x6144_S128x128_0_256 x, fun x => piece_at (xmRow (iblk m c 2 t) (iblk m c 1 t) (iblk m c 0 t)) 128 (by decide) inb_S128x6144_S128x128_0_128 x, fun x => piece_at (xmRow (iblk m c 2 t) (iblk m c 1 t) (iblk m c 0 t)) 0 (by decide) inb_S128x6144_S128x128_0_0 x, trivial⟩
  · rfl
  pointwise [k0_pay4, full]

end Cert.NormQuantIdeal.RefValue

end
-- ==== Proof.NormSpec.lean ====
/- Layer norm with a modulation and the per-row e4m3 quantiser, row by row, over the extended reals. -/
module
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open scoped BigOperators
namespace Cert.NormSpec

/-- The small constant added to the variance. -/
abbrev eps : EReal := Ideal.ofBits .f32 0x358637BD#32

/-- The mean of a row. -/
def mean (x : Fin 6144 → EReal) : EReal := (∑ k, x k) * ((1 / 6144 : ℝ) : EReal)

/-- The variance of a row. -/
def var (x : Fin 6144 → EReal) : EReal := (∑ k, (x k - mean x) * (x k - mean x)) * ((1 / 6144 : ℝ) : EReal)

/-- The normalised and modulated row: scale `a`, shift `b`. -/
def xm (a b x : Fin 6144 → EReal) (k : Fin 6144) : EReal := (1 + a k) * ((x k - mean x) * Ideal.rsqrt (var x + eps)) + b k

/-- The largest magnitude of a row. -/
def amax (f : Fin 6144 → EReal) : EReal := (Finset.univ : Finset (Fin 6144)).fold max ⊥ fun k => max (f k) (-f k)

theorem abs_at (x : EReal) : FloatOps.absf (F := Ideal) (φ := .f32) x = max x (-x) := rfl

/-- The scale of a row: its largest magnitude over 448, or one for a row of zeros. -/
def scale (f : Fin 6144 → EReal) : EReal := if amax f = 0 then 1 else amax f * ((1 / 448 : ℝ) : EReal)

/-- The code of an entry: the entry over the scale, kept between -448 and 448. -/
def code (f : Fin 6144 → EReal) (k : Fin 6144) : EReal :=
  min (Ideal.ofBits .f32 0x43E00000#32) (max (Ideal.ofBits .f32 0xC3E00000#32) (Ideal.div (f k) (scale f)))

theorem square_nonneg (x : EReal) : 0 ≤ x * x := by
  rcases le_total 0 x with h | h
  · exact EReal.mul_nonneg h h
  · have h' : 0 ≤ -x := EReal.neg_nonneg.mpr h
    have := EReal.mul_nonneg h' h'
    rwa [neg_mul_neg] at this

theorem eps_nonneg : 0 ≤ eps := by
  have e : eps = ((8796093 * 2⁻¹ ^ 43 : ℝ) : EReal) := by
    simp [eps, Ideal.ofBits, Ideal.ieee, -EReal.coe_mul]
  rw [e]
  exact_mod_cast (by positivity)

theorem var_nonneg (x : Fin 6144 → EReal) : 0 ≤ var x + eps :=
  add_nonneg (EReal.mul_nonneg (Finset.sum_nonneg fun k _ => square_nonneg _) (by exact_mod_cast (by positivity))) eps_nonneg

/-- One over the root is the reciprocal root, of a number that is not negative. -/
theorem div_sqrt (w : EReal) (h : 0 ≤ w) : Ideal.div 1 (Ideal.sqrt w) = Ideal.rsqrt w := by
  induction w using EReal.rec with
  | bot => exact absurd h (by simp)
  | top =>
    rw [show Ideal.sqrt ⊤ = ⊤ from rfl, show Ideal.rsqrt ⊤ = 0 from rfl]
    simp [Ideal.div]
  | coe r =>
    have hr : 0 ≤ r := by exact_mod_cast h
    have e1 : Ideal.sqrt (r : EReal) = ((Real.sqrt r : ℝ) : EReal) := if_neg (not_lt.mpr hr)
    have e2 : Ideal.rsqrt (r : EReal) = if r = 0 then ⊤ else (((Real.sqrt r)⁻¹ : ℝ) : EReal) := if_neg (not_lt.mpr hr)
    rw [e1, e2]
    by_cases h0 : r = 0
    · subst h0
      simp [Ideal.div]
    · have : Real.sqrt r ≠ 0 := (Real.sqrt_pos.mpr (lt_of_le_of_ne hr (Ne.symm h0))).ne'
      rw [if_neg h0, Ideal.div_coe this, one_mul, one_div]

end Cert.NormSpec

end
-- ==== Proof.NormQuantArray.lean ====
/- What one grid point of the norm_quant kernel leaves, over the launch's arrays, and the three result arrays after the last point. -/
module
public import proofs.«01_k».proof.Proof.NormQuantBlock
public import proofs.«01_k».proof.Proof.NormSpec
@[expose] public section
set_option maxRecDepth 16384
noncomputable section
open Idealize.ShloMosaic Idealize.ShloMosaic.TcCoe Idealize.SL.Sem
open scoped BigOperators
namespace Cert.NormQuantIdeal.RefValue
open Cert.NormQuantIdeal Cert.NormQuantIdeal.Gen
variable (m : (ℓ : Loc nD τ sig) → Buf (Elt Ideal) ℓ)

/-- Every window's block index at every grid point: the modulation's batch is the point's. -/
theorem idx : ∀ t : Fin cfg0.N, win0_0.index t = ![t.val, 0] ∧ win0_1.index t = ![t.val / 16, 0, 0] ∧ win0_2.index t = ![t.val / 16, 0, 1]
    ∧ win0_3.index t = ![0, 0] ∧ win0_4.index t = ![t.val, 0] ∧ win0_5.index t = ![t.val, 0] ∧ win0_6.index t = ![t.val, 0] :=
  (by decide +kernel : ∀ t : Fin grid0.N, _)

/-- The grid has 32 points. -/
theorem lt_32 (t : Fin cfg0.N) : t.val < 32 := lt_of_lt_of_eq t.isLt (show cfg0.N = 32 from N_0)

/-- The row of the launch that row `p` of point `t`'s block is. -/
theorem row_lt (t : Fin cfg0.N) (p : Fin 128) : t.val * 128 + p < 4096 := by have := lt_32 t; omega

/-- The modulated row `r` over the launch's arrays: the second 6144 columns of the modulation are the scale, the first the shift. -/
def rowAt (c : Dev nD) (r : Fin 4096) : Fin 6144 → EReal :=
  NormSpec.xm
    (fun k => (show FVec Ideal S2x1x18432 .f32 from m ((c : Thread nD τ).loc main_arg1)) (ix3 (⟨r / 2048, by omega⟩ : Fin 2) (0 : Fin 1) (⟨6144 + k, by omega⟩ : Fin 18432)))
    (fun k => (show FVec Ideal S2x1x18432 .f32 from m ((c : Thread nD τ).loc main_arg1)) (ix3 (⟨r / 2048, by omega⟩ : Fin 2) (0 : Fin 1) (⟨k, by omega⟩ : Fin 18432)))
    (fun k => (show FVec Ideal S2x2048x6144 .bf16 from m ((c : Thread nD τ).loc main_arg0)) (ix3 (⟨r / 2048, by omega⟩ : Fin 2) (⟨r % 2048, Nat.mod_lt _ (by decide)⟩ : Fin 2048) k))

/-- The codes. -/
def codes (c : Dev nD) : FVec Ideal S4096x6144 .fp8e4m3 := fun y => NormSpec.code (rowAt m c (y 0)) (y 1)

/-- The row scales, in every lane. -/
def scales (c : Dev nD) : FVec Ideal S4096x128 .f32 := fun y => NormSpec.scale (rowAt m c (y 0))

/-- The low-rank product. -/
def lowrank (c : Dev nD) : FVec Ideal S4096x32 .bf16 := fun y =>
  ∑ k : Fin 6144, rowAt m c (y 0) k * (show FVec Ideal S32x6144 .bf16 from m ((c : Thread nD τ).loc main_arg2)) (ix2 (y 1) k)

/-- Row `p` of the rows point `t` modulates. -/
theorem row_eq (c : Dev nD) (t : Fin cfg0.N) (p : Fin 128) :
    xmRow (iblk m c 2 t) (iblk m c 1 t) (iblk m c 0 t) p = rowAt m c ⟨t.val * 128 + p, row_lt t p⟩ := by
  have ht := lt_32 t
  have e0 : ∀ (k : Fin 6144), iblk m c 0 t (ix2 p k : S128x6144.Idx)
      = (show FVec Ideal S2x2048x6144 .bf16 from m ((c : Thread nD τ).loc main_arg0))
        (ix3 (⟨(t.val * 128 + p) / 2048, by omega⟩ : Fin 2) (⟨(t.val * 128 + p) % 2048, Nat.mod_lt _ (by decide)⟩ : Fin 2048) k) := fun k => by
    have e : (win0_0.blk t).view.emb (ix2 p k : S128x6144.Idx) = ix2 (⟨t.val * 128 + p, row_lt t p⟩ : Fin 4096) k := by blk_ext [idx t]
    refine (congrArg (V m c main_v0) e).trans ?_
    entry_read
    pointwise
    all_goals blk_point []
  have e1 : ∀ (k : Fin 6144), iblk m c 1 t (ix3 (0 : Fin 1) (0 : Fin 1) k : S1x1x6144.Idx)
      = (show FVec Ideal S2x1x18432 .f32 from m ((c : Thread nD τ).loc main_arg1)) (ix3 (⟨(t.val * 128 + p) / 2048, by omega⟩ : Fin 2) (0 : Fin 1) (⟨k, by omega⟩ : Fin 18432)) := fun k => by
    blk_point [iblk, V, idx t]
  have e2 : ∀ (k : Fin 6144), iblk m c 2 t (ix3 (0 : Fin 1) (0 : Fin 1) k : S1x1x6144.Idx)
      = (show FVec Ideal S2x1x18432 .f32 from m ((c : Thread nD τ).loc main_arg1)) (ix3 (⟨(t.val * 128 + p) / 2048, by omega⟩ : Fin 2) (0 : Fin 1) (⟨6144 + k, by omega⟩ : Fin 18432)) := fun k => by
    blk_point [iblk, V, idx t]
  funext k
  have e : xmRow (iblk m c 2 t) (iblk m c 1 t) (iblk m c 0 t) p k
      = NormSpec.xm (fun k => (show FVec Ideal S1x1x6144 .f32 from iblk m c 2 t) (ix3 (0 : Fin 1) (0 : Fin 1) k))
        (fun k => (show FVec Ideal S1x1x6144 .f32 from iblk m c 1 t) (ix3 (0 : Fin 1) (0 : Fin 1) k))
        (fun k => (show FVec Ideal S128x6144 .bf16 from iblk m c 0 t) (ix2 p k)) k := rfl
  rw [e, rowAt]
  exact congrFun (congrArg₂ (fun f g => f g) (congrArg₂ NormSpec.xm (funext e2) (funext e1)) (funext e0)) k

theorem codeRow_eq (f : Fin 128 → Fin 6144 → EReal) (p : Fin 128) (k : Fin 6144) : codeRow f p k = NormSpec.code (f p) k := rfl

theorem scaleRow_eq (f : Fin 128 → Fin 6144 → EReal) (p : Fin 128) : scaleRow f p = NormSpec.scale (f p) := rfl

/-- A point's codes, over the launch's arrays. -/
theorem codes_pt (c : Dev nD) (t : Fin cfg0.N) (p : Fin 128) (k : Fin 6144) :
    (show FVec Ideal S128x6144 .fp8e4m3 from (outsAt0 m c t).1) (ix2 p k) = codes m c (ix2 ⟨t.val * 128 + p, row_lt t p⟩ k) :=
  (codes_block m c t p k).trans ((codeRow_eq _ p k).trans (congrArg (fun f => NormSpec.code f k) (row_eq m c t p)))

/-- A point's scales, over the launch's arrays. -/
theorem scales_pt (c : Dev nD) (t : Fin cfg0.N) (p l : Fin 128) :
    (show FVec Ideal S128x128 .f32 from (outsAt0 m c t).2.1) (ix2 p l) = scales m c (ix2 ⟨t.val * 128 + p, row_lt t p⟩ l) :=
  (scale_block m c t p l).trans ((scaleRow_eq _ p).trans (congrArg NormSpec.scale (row_eq m c t p)))

/-- The staged low-rank factor is the launch's. -/
theorem w_eq (c : Dev nD) (t : Fin cfg0.N) (n : Fin 32) (k : Fin 6144) : iblk m c 3 t (ix2 n k : S32x6144.Idx)
    = (show FVec Ideal S32x6144 .bf16 from m ((c : Thread nD τ).loc main_arg2)) (ix2 n k) := by
  blk_point [iblk, V, idx t]

/-- A point's low-rank product, over the launch's arrays. -/
theorem lowrank_pt (c : Dev nD) (t : Fin cfg0.N) (p : Fin 128) (n : Fin 32) :
    (show FVec Ideal S128x32 .bf16 from (outsAt0 m c t).2.2) (ix2 p n) = lowrank m c (ix2 ⟨t.val * 128 + p, row_lt t p⟩ n) :=
  (t_block m c t p n).trans (Finset.sum_congr rfl fun k _ => congrArg₂ (fun f w => f k * w) (row_eq m c t p) (w_eq m c t n k))

/-- Where each output block lies in its array. -/
theorem emb_4 (t : Fin cfg0.N) (p : Fin 128) (k : Fin 6144) :
    (win0_4.blk t).view.emb (ix2 p k : S128x6144.Idx) = ix2 (⟨t.val * 128 + p, row_lt t p⟩ : Fin 4096) k := by blk_ext [idx t]

theorem emb_5 (t : Fin cfg0.N) (p : Fin 128) (k : Fin 128) :
    (win0_5.blk t).view.emb (ix2 p k : S128x128.Idx) = ix2 (⟨t.val * 128 + p, row_lt t p⟩ : Fin 4096) k := by blk_ext [idx t]

theorem emb_6 (t : Fin cfg0.N) (p : Fin 128) (k : Fin 32) :
    (win0_6.blk t).view.emb (ix2 p k : S128x32.Idx) = ix2 (⟨t.val * 128 + p, row_lt t p⟩ : Fin 4096) k := by blk_ext [idx t]

set_option maxHeartbeats 0

/-- The codes after the run. -/
theorem final_4 (c : Dev nD) : (dats m 0 c).arrAt 4 (cfgs 0).N = codes m c := by
  refine (dats m 0 c).arrAt_eq_of_covers 4 _ (by decide +kernel) fun t hf y => ?_
  obtain ⟨p, k, rfl⟩ : ∃ (p : Fin 128) (k : Fin 6144), y = ix2 p k := ⟨y 0, y 1, eq_ix2 y⟩
  blk_simp; rw [after0_4]
  exact (codes_pt m c t p k).trans (congrArg (codes m c) (emb_4 t p k).symm)

/-- The scales after the run. -/
theorem final_5 (c : Dev nD) : (dats m 0 c).arrAt 5 (cfgs 0).N = scales m c := by
  refine (dats m 0 c).arrAt_eq_of_covers 5 _ (by decide +kernel) fun t hf y => ?_
  obtain ⟨p, k, rfl⟩ : ∃ (p : Fin 128) (k : Fin 128), y = ix2 p k := ⟨y 0, y 1, eq_ix2 y⟩
  blk_simp; rw [after0_5]
  exact (scales_pt m c t p k).trans (congrArg (scales m c) (emb_5 t p k).symm)

/-- The low-rank product after the run. -/
theorem final_6 (c : Dev nD) : (dats m 0 c).arrAt 6 (cfgs 0).N = lowrank m c := by
  refine (dats m 0 c).arrAt_eq_of_covers 6 _ (by decide +kernel) fun t hf y => ?_
  obtain ⟨p, k, rfl⟩ : ∃ (p : Fin 128) (k : Fin 32), y = ix2 p k := ⟨y 0, y 1, eq_ix2 y⟩
  blk_simp; rw [after0_6]
  exact (lowrank_pt m c t p k).trans (congrArg (lowrank m c) (emb_6 t p k).symm)

end Cert.NormQuantIdeal.RefValue

end
-- ==== Proof.NormQuantRef.lean ====
/- What the reference of the norm_quant call leaves in its three result arrays. -/
module
public import proofs.«01_k».proof.Proof.Gen.NormQuantRefIdeal.Frame
public import proofs.«01_k».proof.Proof.NormSpec
@[expose] public section
set_option maxRecDepth 16384
noncomputable section
open Idealize.ShloMosaic Idealize.ShloMosaic.TcCoe Idealize.SL.Sem
open scoped BigOperators
namespace Cert.NormQuantRefIdeal.RefValue
open Cert.NormQuantRefIdeal Cert.NormQuantRefIdeal.Gen
variable (m : (ℓ : Loc nD τ sig) → Buf (Elt Ideal) ℓ)

/-- Every window's block is its whole array. -/
theorem idx : ∀ t : Fin cfg0.N, win0_0.index t = ![0, 0, 0] ∧ win0_1.index t = ![0, 0, 0] ∧ win0_2.index t = ![0, 0, 0] ∧ win0_3.index t = ![0, 0]
    ∧ win0_4.index t = ![0, 0] ∧ win0_5.index t = ![0, 0] ∧ win0_6.index t = ![0, 0] :=
  (by decide +kernel : ∀ t : Fin grid0.N, _)

theorem c6144 : Ideal.ofBits .f32 0x45C00000#32 = ((6144 : ℝ) : EReal) := by
  simp [Ideal.ofBits, Ideal.ieee, -EReal.coe_mul]; norm_num

theorem c448 : Ideal.ofBits .f32 0x43E00000#32 = ((448 : ℝ) : EReal) := by
  simp [Ideal.ofBits, Ideal.ieee, -EReal.coe_mul]; norm_num

theorem bot_eq : Ideal.ofBits .f32 0xFF800000#32 = ⊥ := by simp [Ideal.ofBits, Ideal.ieee]

theorem div_6144 (s : EReal) : Ideal.div s ((6144 : ℝ) : EReal) = s * ((1 / 6144 : ℝ) : EReal) := Ideal.div_coe (by norm_num) s

theorem div_448 (s : EReal) : Ideal.div s ((448 : ℝ) : EReal) = s * ((1 / 448 : ℝ) : EReal) := Ideal.div_coe (by norm_num) s

/-- The modulated rows, entry by entry. -/
theorem xm_at (x : FVec Ideal S2x2048x6144 .bf16) (b a : FVec Ideal S2x1x6144 .f32) (i : Fin 2) (s : Fin 2048) (k : Fin 6144) :
    k0_pay5 (F := Ideal) x b a (ix3 i s k)
      = NormSpec.xm (fun k => a (ix3 i 0 k)) (fun k => b (ix3 i 0 k)) (fun k => x (ix3 i s k)) k := by
  have e := NormSpec.div_sqrt _ (NormSpec.var_nonneg (fun k => x (ix3 i s k)))
  rw [NormSpec.xm, ← e, NormSpec.var, NormSpec.mean, ← div_6144, ← div_6144, ← c6144]
  pointwise [k0_pay5]

/-- The largest magnitude of a row. -/
theorem amax_at (x : FVec Ideal S2x2048x6144 .bf16) (b a : FVec Ideal S2x1x6144 .f32) (i : Fin 2) (s : Fin 2048) :
    k0_pay6 (F := Ideal) x b a (ix3 i s 0)
      = NormSpec.amax (NormSpec.xm (fun k => a (ix3 i 0 k)) (fun k => b (ix3 i 0 k)) (fun k => x (ix3 i s k))) := by
  pointwise [k0_pay6, NormSpec.amax]
  simp only [xm_at, bot_eq]
  exact Finset.fold_congr fun k _ => NormSpec.abs_at _

variable (x : FVec Ideal S2x2048x6144 .bf16) (b a : FVec Ideal S2x1x6144 .f32)

/-- The modulated row at batch `i`, position `s`. -/
abbrev row3 (i : Fin 2) (s : Fin 2048) : Fin 6144 → EReal := NormSpec.xm (fun k => a (ix3 i 0 k)) (fun k => b (ix3 i 0 k)) (fun k => x (ix3 i s k))

variable (M Q : FVec Ideal S2x2048x1 .f32) (P : IVec S2x2048x1 1) (V : FVec Ideal S2x2048x6144 .f32)

/-- One where the largest magnitude is zero, else the largest magnitude over 448. -/
theorem sel_at (i : Fin 2) (s : Fin 2048) :
    k0_pay1 (F := Ideal) (cmpf .oeq M (broadcast S2x2048x1 (Scalar.ofBits .f32 0x00000000#32))) (divf M (broadcast S2x2048x1 (Scalar.ofBits .f32 0x43E00000#32)))
      (Scalar.ofBits .f32 0x3F800000#32) (ix3 i s 0) = if M (ix3 i s 0) = 0 then 1 else Ideal.div (M (ix3 i s 0)) (Ideal.ofBits .f32 0x43E00000#32) := by
  pointwise [k0_pay1]

/-- The scale of a row. -/
theorem scale_at (i : Fin 2) (s : Fin 2048) :
    k0_pay1 (F := Ideal) (k0_pay7 (F := Ideal) x b a) (k0_pay8 (F := Ideal) x b a) (Scalar.ofBits .f32 0x3F800000#32) (ix3 i s 0) = NormSpec.scale (row3 x b a i s) := by
  refine (sel_at (k0_pay6 (F := Ideal) x b a) i s).trans ?_
  rw [amax_at, c448, div_448, NormSpec.scale]

theorem lanes_at (cst : EReal) (r : Fin 4096) (l : Fin 128) :
    k0_pay3 (F := Ideal) P Q cst (ix2 r l) = k0_pay1 (F := Ideal) P Q cst (ix3 (⟨r / 2048, by omega⟩ : Fin 2) (⟨r % 2048, Nat.mod_lt _ (by decide)⟩ : Fin 2048) (0 : Fin 1)) := by
  pointwise [k0_pay3]
  all_goals blk_point []

/-- The scales the body leaves. -/
theorem scales_at (r : Fin 4096) (l : Fin 128) :
    k0_pay3 (F := Ideal) (k0_pay7 (F := Ideal) x b a) (k0_pay8 (F := Ideal) x b a) (Scalar.ofBits .f32 0x3F800000#32) (ix2 r l)
      = NormSpec.scale (row3 x b a ⟨r / 2048, by omega⟩ ⟨r % 2048, Nat.mod_lt _ (by decide)⟩) :=
  (lanes_at _ _ _ r l).trans (scale_at x b a _ _)

theorem clipped_at (cst : EReal) (r : Fin 4096) (k : Fin 6144) :
    k0_pay2 (F := Ideal) V P Q cst (ix2 r k)
      = min (Ideal.ofBits .f32 0x43E00000#32) (max (Ideal.ofBits .f32 0xC3E00000#32)
        (Ideal.div (V (ix3 (⟨r / 2048, by omega⟩ : Fin 2) (⟨r % 2048, Nat.mod_lt _ (by decide)⟩ : Fin 2048) k))
          (k0_pay1 (F := Ideal) P Q cst (ix3 (⟨r / 2048, by omega⟩ : Fin 2) (⟨r % 2048, Nat.mod_lt _ (by decide)⟩ : Fin 2048) (0 : Fin 1))))) := by
  pointwise [k0_pay2]
  all_goals blk_point []

/-- The codes the body leaves. -/
theorem codes_at (r : Fin 4096) (k : Fin 6144) :
    k0_pay2 (F := Ideal) (k0_pay5 (F := Ideal) x b a) (k0_pay7 (F := Ideal) x b a) (k0_pay8 (F := Ideal) x b a) (Scalar.ofBits .f32 0x3F800000#32) (ix2 r k)
      = NormSpec.code (row3 x b a ⟨r / 2048, by omega⟩ ⟨r % 2048, Nat.mod_lt _ (by decide)⟩) k := by
  refine (clipped_at _ _ _ _ r k).trans ?_
  rw [scale_at, xm_at, NormSpec.code]

theorem dot_at (w : FVec Ideal S32x6144 .bf16) (r : Fin 4096) (n : Fin 32) :
    k0_pay4 (F := Ideal) w V (ix2 r n)
      = ∑ k : Fin 6144, V (ix3 (⟨r / 2048, by omega⟩ : Fin 2) (⟨r % 2048, Nat.mod_lt _ (by decide)⟩ : Fin 2048) k) * w (ix2 n k) := by
  pointwise [k0_pay4]
  all_goals blk_point []

/-- The low-rank product the body leaves. -/
theorem lowrank_at (w : FVec Ideal S32x6144 .bf16) (r : Fin 4096) (n : Fin 32) :
    k0_pay4 (F := Ideal) w (k0_pay5 (F := Ideal) x b a) (ix2 r n)
      = ∑ k : Fin 6144, row3 x b a ⟨r / 2048, by omega⟩ ⟨r % 2048, Nat.mod_lt _ (by decide)⟩ k * w (ix2 n k) := by
  refine (dot_at _ w r n).trans ?_
  simp only [xm_at, row3]

/-- The modulated row `r` over the launch's arrays: the second 6144 columns of the modulation are the scale, the first the shift. -/
def rowAt (c : Dev nD) (r : Fin 4096) : Fin 6144 → EReal :=
  NormSpec.xm
    (fun k => (show FVec Ideal S2x1x18432 .f32 from m ((c : Thread nD τ).loc main_arg1)) (ix3 (⟨r / 2048, by omega⟩ : Fin 2) (0 : Fin 1) (⟨6144 + k, by omega⟩ : Fin 18432)))
    (fun k => (show FVec Ideal S2x1x18432 .f32 from m ((c : Thread nD τ).loc main_arg1)) (ix3 (⟨r / 2048, by omega⟩ : Fin 2) (0 : Fin 1) (⟨k, by omega⟩ : Fin 18432)))
    (fun k => (show FVec Ideal S2x2048x6144 .bf16 from m ((c : Thread nD τ).loc main_arg0)) (ix3 (⟨r / 2048, by omega⟩ : Fin 2) (⟨r % 2048, Nat.mod_lt _ (by decide)⟩ : Fin 2048) k))

/-- The codes. -/
def codes (c : Dev nD) : FVec Ideal S4096x6144 .fp8e4m3 := fun y => NormSpec.code (rowAt m c (y 0)) (y 1)

/-- The row scales, in every lane. -/
def scales (c : Dev nD) : FVec Ideal S4096x128 .f32 := fun y => NormSpec.scale (rowAt m c (y 0))

/-- The low-rank product. -/
def lowrank (c : Dev nD) : FVec Ideal S4096x32 .bf16 := fun y =>
  ∑ k : Fin 6144, rowAt m c (y 0) k * (show FVec Ideal S32x6144 .bf16 from m ((c : Thread nD τ).loc main_arg2)) (ix2 (y 1) k)

/-- The launch's arrays as the body reads them. -/
theorem row_eq (c : Dev nD) (t : Fin cfg0.N) (X : FVec Ideal S2x2048x6144 .bf16) (B A : FVec Ideal S2x1x6144 .f32)
    (hX : ∀ i s k, X (ix3 i s k) = iblk m c 0 t (ix3 i s k : S2x2048x6144.Idx)) (hB : ∀ i s k, B (ix3 i s k) = iblk m c 1 t (ix3 i s k : S2x1x6144.Idx))
    (hA : ∀ i s k, A (ix3 i s k) = iblk m c 2 t (ix3 i s k : S2x1x6144.Idx)) (r : Fin 4096) :
    row3 X B A ⟨r / 2048, by omega⟩ ⟨r % 2048, Nat.mod_lt _ (by decide)⟩ = rowAt m c r := by
  have e0 : ∀ (i : Fin 2) (s : Fin 2048) (k : Fin 6144), iblk m c 0 t (ix3 i s k : S2x2048x6144.Idx)
      = (show FVec Ideal S2x2048x6144 .bf16 from m ((c : Thread nD τ).loc main_arg0)) (ix3 i s k) := fun i s k => by
    blk_point [iblk, V, idx t]
  have e1 : ∀ (i : Fin 2) (k : Fin 6144), iblk m c 1 t (ix3 i (0 : Fin 1) k : S2x1x6144.Idx)
      = (show FVec Ideal S2x1x18432 .f32 from m ((c : Thread nD τ).loc main_arg1)) (ix3 i (0 : Fin 1) (⟨k, by omega⟩ : Fin 18432)) := fun i k => by
    have e : (win0_1.blk t).view.emb (ix3 i (0 : Fin 1) k : S2x1x6144.Idx) = ix3 i (0 : Fin 1) k := by blk_ext [idx t]
    refine (congrArg (V m c main_v0) e).trans ?_
    entry_read
    pointwise
  have e2 : ∀ (i : Fin 2) (k : Fin 6144), iblk m c 2 t (ix3 i (0 : Fin 1) k : S2x1x6144.Idx)
      = (show FVec Ideal S2x1x18432 .f32 from m ((c : Thread nD τ).loc main_arg1)) (ix3 i (0 : Fin 1) (⟨6144 + k, by omega⟩ : Fin 18432)) := fun i k => by
    have e : (win0_2.blk t).view.emb (ix3 i (0 : Fin 1) k : S2x1x6144.Idx) = ix3 i (0 : Fin 1) k := by blk_ext [idx t]
    refine (congrArg (V m c main_v1) e).trans ?_
    entry_read
    pointwise
  simp only [row3, rowAt, hX, hB, hA, e0, e1, e2]

/-- A load of the whole block reads the block. -/
theorem ld_x (f : FVec Ideal S2x2048x6144 .bf16) (i : Fin 2) (s : Fin 2048) (k : Fin 6144) : View.ld (Val := Elt Ideal) (e' := .bf16) f r0_0 (ix3 i s k) = f (ix3 i s k) := by
  exact congrArg f (by funext a; apply Fin.ext; fin_cases a <;> simp [ix3])

theorem ld_row (f : FVec Ideal S2x1x6144 .f32) (i : Fin 2) (s : Fin 1) (k : Fin 6144) : View.ld (Val := Elt Ideal) (e' := .f32) f r0_1 (ix3 i s k) = f (ix3 i s k) := by
  exact congrArg f (by funext a; apply Fin.ext; fin_cases a <;> simp [ix3])

/-- The codes after the run. -/
theorem final_4 (c : Dev nD) : (dats m 0 c).arrAt 4 (cfgs 0).N = codes m c := by
  refine (dats m 0 c).arrAt_eq_of_covers 4 _ (by decide +kernel) fun t hf y => ?_
  blk_simp; rw [after0_4]; frame_out
  obtain ⟨p, k, rfl⟩ : ∃ (p : Fin 4096) (k : Fin 6144), y = ix2 p k := ⟨y 0, y 1, eq_ix2 y⟩
  refine (((codes_at _ _ _ p k).trans (congrArg (fun f => NormSpec.code f k)
    (row_eq m c t (View.ld (iblk m c 0 t) r0_0) (View.ld (iblk m c 1 t) r0_1) (View.ld (iblk m c 2 t) r0_1) (fun i s k => ld_x _ i s k) (fun i s k => ld_row _ i s k) (fun i s k => ld_row _ i s k) p))).trans ?_).trans
    (congrArg (codes m c) (a₁ := ix2 p k) ?_)
  · rfl
  · blk_ext [idx t]

/-- The scales after the run. -/
theorem final_5 (c : Dev nD) : (dats m 0 c).arrAt 5 (cfgs 0).N = scales m c := by
  refine (dats m 0 c).arrAt_eq_of_covers 5 _ (by decide +kernel) fun t hf y => ?_
  blk_simp; rw [after0_5]; frame_out
  obtain ⟨p, k, rfl⟩ : ∃ (p : Fin 4096) (k : Fin 128), y = ix2 p k := ⟨y 0, y 1, eq_ix2 y⟩
  refine (((scales_at _ _ _ p k).trans (congrArg (fun f => NormSpec.scale f)
    (row_eq m c t (View.ld (iblk m c 0 t) r0_0) (View.ld (iblk m c 1 t) r0_1) (View.ld (iblk m c 2 t) r0_1) (fun i s k => ld_x _ i s k) (fun i s k => ld_row _ i s k) (fun i s k => ld_row _ i s k) p))).trans ?_).trans
    (congrArg (scales m c) (a₁ := ix2 p k) ?_)
  · rfl
  · blk_ext [idx t]

/-- The low-rank product after the run. -/
theorem final_6 (c : Dev nD) : (dats m 0 c).arrAt 6 (cfgs 0).N = lowrank m c := by
  refine (dats m 0 c).arrAt_eq_of_covers 6 _ (by decide +kernel) fun t hf y => ?_
  blk_simp; rw [after0_6]; frame_out
  obtain ⟨p, k, rfl⟩ : ∃ (p : Fin 4096) (k : Fin 32), y = ix2 p k := ⟨y 0, y 1, eq_ix2 y⟩
  refine ((lowrank_at _ _ _ _ p k).trans (Finset.sum_congr rfl fun j _ => congrArg₂ (· * ·) (congrFun
    (row_eq m c t (View.ld (iblk m c 0 t) r0_0) (View.ld (iblk m c 1 t) r0_1) (View.ld (iblk m c 2 t) r0_1) (fun i s k => ld_x _ i s k) (fun i s k => ld_row _ i s k) (fun i s k => ld_row _ i s k) p) j) ?_)).trans
    (congrArg (lowrank m c) (a₁ := ix2 p k) ?_)
  · blk_point [iblk, V, idx t]
  · blk_ext [idx t]

end Cert.NormQuantRefIdeal.RefValue

end
-- ==== Proof.NormQuantEq.lean ====
/- The norm_quant call equals its reference: the codes, the row scales and the low-rank product agree. -/
module
public import proofs.«01_k».proof.Defs
public import proofs.«01_k».proof.Proof.Gen.NormQuantIdeal.Value
public import proofs.«01_k».proof.Proof.Gen.NormQuantRefIdeal.Value
public import proofs.«01_k».proof.Proof.NormQuantArray
public import proofs.«01_k».proof.Proof.NormQuantRef
@[expose] public section
set_option maxRecDepth 16384
noncomputable section
open Idealize.ShloMosaic Idealize.ShloMosaic.TcCoe Idealize.SL.Sem
open scoped BigOperators
namespace Cert.NormQuantEq

/-- From the same arrays both programs read the same modulated row. -/
theorem row_eq (m : (ℓ : Loc NormQuantIdeal.nD NormQuantIdeal.τ NormQuantIdeal.sig) → Buf (Elt Ideal) ℓ)
    (m' : (ℓ : Loc NormQuantRefIdeal.nD NormQuantRefIdeal.τ NormQuantRefIdeal.sig) → Buf (Elt Ideal) ℓ) (c : Dev NormQuantIdeal.nD)
    (h0 : m' ((c : Thread NormQuantRefIdeal.nD NormQuantRefIdeal.τ).loc NormQuantRefIdeal.main_arg0) = m ((c : Thread NormQuantIdeal.nD NormQuantIdeal.τ).loc NormQuantIdeal.main_arg0))
    (h1 : m' ((c : Thread NormQuantRefIdeal.nD NormQuantRefIdeal.τ).loc NormQuantRefIdeal.main_arg1) = m ((c : Thread NormQuantIdeal.nD NormQuantIdeal.τ).loc NormQuantIdeal.main_arg1))
    (r : Fin 4096) : NormQuantRefIdeal.RefValue.rowAt m' c r = NormQuantIdeal.RefValue.rowAt m c r := by
  simp only [NormQuantRefIdeal.RefValue.rowAt, NormQuantIdeal.RefValue.rowAt, h0, h1]

/-- `Cert.algebraic_NormQuantIdeal_NormQuantRefIdeal`: both programs run and leave equal codes, equal row scales and equal low-rank products. -/
theorem algebraic : algebraic_NormQuantIdeal_NormQuantRefIdeal (hNormQuantIdeal := NormQuantIdeal.Gen.facts) (hNormQuantRefIdeal := NormQuantRefIdeal.Gen.facts) := by
  intro m g m' g' _ hagree
  refine ⟨fun c => NormQuantIdeal.RefValue.codes m c, fun c => NormQuantIdeal.RefValue.scales m c, fun c => NormQuantIdeal.RefValue.lowrank m c, ?_, ?_⟩
  · refine (θ_run _ _ _).mono (fun r h c => ?_) (NormQuantIdeal.Value.run_blocks m g)
    obtain ⟨a, b, d, hr⟩ := h c
    exact ⟨a.trans (NormQuantIdeal.RefValue.final_4 m c), b.trans (NormQuantIdeal.RefValue.final_5 m c), d.trans (NormQuantIdeal.RefValue.final_6 m c), hr⟩
  · refine (θ_run _ _ _).mono (fun r h c => ?_) (NormQuantRefIdeal.Value.run_blocks m' g')
    obtain ⟨a, b, d, hr⟩ := h c
    obtain ⟨h0, h1, h2⟩ := hagree c
    have e := row_eq m m' c h0 h1
    refine ⟨a.trans ((NormQuantRefIdeal.RefValue.final_4 m' c).trans ?_), b.trans ((NormQuantRefIdeal.RefValue.final_5 m' c).trans ?_),
      d.trans ((NormQuantRefIdeal.RefValue.final_6 m' c).trans ?_), hr⟩
    · funext y
      exact congrFun (congrArg NormSpec.code (e (y 0))) (y 1)
    · funext y
      exact congrArg NormSpec.scale (e (y 0))
    · funext y
      simp only [NormQuantRefIdeal.RefValue.lowrank, NormQuantIdeal.RefValue.lowrank, h2]
      exact Finset.sum_congr rfl fun k _ => congrArg₂ (· * ·) (congrFun (e (y 0)) k) rfl

end Cert.NormQuantEq

end
-- ==== Proof.QkvTile.lean ====
/- What one row tile of the linear1_qkv kernel computes: every tile is one function of the vectors it loads. -/
module
public import proofs.«01_k».proof.Proof.Gen.QkvIdeal.Frame
public import proofs.«01_k».proof.Proof.Spec
public import Idealize.ShloMosaic.Lib.Pipeline.ReadBack
@[expose] public section
set_option maxRecDepth 16384
noncomputable section
open Idealize.ShloMosaic Idealize.ShloMosaic.TcCoe Idealize.SL.Sem
open scoped BigOperators
namespace Cert.QkvIdeal.RefValue
open Cert.QkvIdeal Cert.QkvIdeal.Gen

variable (v0 v1 : FVec Ideal S512x6144 .fp8e4m3) (v2 : FVec Ideal S512x128 .f32) (v3 v4 : FVec Ideal S1x512 .f32)
  (v5 v6 : FVec Ideal S512x32 .bf16) (vg : FVec Ideal S1x1x128 .f32) (vc vs : FVec Ideal S512x128 .f32)

/-- The normalised head times the gain: the part of a tile the rotation is applied to. -/
def normed (h : FVec Ideal S512x128 .f32) (vg : FVec Ideal S1x1x128 .f32) : FVec Ideal S512x128 .f32 :=
  mulf (mulf h (broadcastTo S512x128 (rsqrt (addf (divf (shapeCast S512x1 (multiReduction .add [1] S512 (mulf h h) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (shapeCast S1x128 vg shapeCasts_S1x1x128_S1x128) broadcasts_S1x128_S512x128)

/-- One head of a tile, normalised and turned. -/
def turn (h : FVec Ideal S512x128 .f32) (vg : FVec Ideal S1x1x128 .f32) (vc vs : FVec Ideal S512x128 .f32) : FVec Ideal S512x128 .bf16 :=
  truncf .bf16 (addf (mulf (normed h vg) (shapeCast S512x128 vc shapeCasts_S512x128_S512x128))
    (mulf (select k0_pay18 (dynamicRotate 1 127#32 none (normed h vg) rotates_S512x128_d1) (dynamicRotate 1 1#32 none (normed h vg) rotates_S512x128_d1))
      (shapeCast S512x128 vs shapeCasts_S512x128_S512x128))) bitsLt_bf16_f32

/-- The four heads of a tile. -/
def col0 (z : FVec Ideal S512x512 .f32) : FVec Ideal S512x128 .f32 := extractStridedSlice S512x128 ![0, 0] z slices_S512x512_o0_0_S512x128
def col1 (z : FVec Ideal S512x512 .f32) : FVec Ideal S512x128 .f32 := extractStridedSlice S512x128 ![0, 128] z slices_S512x512_o0_128_S512x128
def col2 (z : FVec Ideal S512x512 .f32) : FVec Ideal S512x128 .f32 := extractStridedSlice S512x128 ![0, 256] z slices_S512x512_o0_256_S512x128
def col3 (z : FVec Ideal S512x512 .f32) : FVec Ideal S512x128 .f32 := extractStridedSlice S512x128 ![0, 384] z slices_S512x512_o0_384_S512x128

/-! Every stored block of the query and key columns is a turned head of the same linear tile; every stored block of the value
    columns is the tile itself. -/

theorem qk_3584_384 : k0_pay2 (k0_pay101 k0_pay18 (k0_pay19 vg) (k0_pay93 v0 v1 v2 v3 v4 v5 v6)) (k0_pay102 (k0_pay19 vg) (k0_pay93 v0 v1 v2 v3 v4 v5 v6) vc) vs
    = turn (col3 (k0_pay93 (F := Ideal) v0 v1 v2 v3 v4 v5 v6)) vg vc vs := rfl
theorem qk_3584_256 : k0_pay99 k0_pay18 (k0_pay19 vg) (k0_pay97 (k0_pay93 v0 v1 v2 v3 v4 v5 v6)) (k0_pay98 (k0_pay93 v0 v1 v2 v3 v4 v5 v6)) vc vs
    = turn (col2 (k0_pay93 (F := Ideal) v0 v1 v2 v3 v4 v5 v6)) vg vc vs := rfl
theorem qk_3584_128 : k0_pay96 k0_pay18 (k0_pay19 vg) (k0_pay93 v0 v1 v2 v3 v4 v5 v6) vc vs
    = turn (col1 (k0_pay93 (F := Ideal) v0 v1 v2 v3 v4 v5 v6)) vg vc vs := rfl
theorem qk_3584_0 : k0_pay95 k0_pay18 (k0_pay94 (k0_pay19 vg) v0 v1 v2 v3 v4 v5 v6) (127#32) vc vs
    = turn (col0 (k0_pay93 (F := Ideal) v0 v1 v2 v3 v4 v5 v6)) vg vc vs := rfl
theorem qk_3072_384 : k0_pay92 (k0_pay90 (k0_pay19 vg) (k0_pay81 v0 v1 v2 v3 v4 v5 v6) vc) (k0_pay91 k0_pay18 (k0_pay19 vg) (k0_pay81 v0 v1 v2 v3 v4 v5 v6) vs)
    = turn (col3 (k0_pay93 (F := Ideal) v0 v1 v2 v3 v4 v5 v6)) vg vc vs := rfl
theorem qk_3072_256 : k0_pay88 k0_pay18 (k0_pay19 vg) (k0_pay86 (k0_pay81 v0 v1 v2 v3 v4 v5 v6)) (k0_pay87 (k0_pay81 v0 v1 v2 v3 v4 v5 v6)) vc vs
    = turn (col2 (k0_pay93 (F := Ideal) v0 v1 v2 v3 v4 v5 v6)) vg vc vs := rfl
theorem qk_3072_128 : k0_pay85 k0_pay18 (k0_pay19 vg) (k0_pay81 v0 v1 v2 v3 v4 v5 v6) vc vs
    = turn (col1 (k0_pay93 (F := Ideal) v0 v1 v2 v3 v4 v5 v6)) vg vc vs := rfl
theorem qk_3072_0 : k0_pay84 (k0_pay82 (k0_pay19 vg) v0 v1 v2 v3 v4 v5 v6) (k0_pay83 k0_pay18 (k0_pay19 vg) v0 v1 v2 v3 v4 v5 v6) vc vs
    = turn (col0 (k0_pay93 (F := Ideal) v0 v1 v2 v3 v4 v5 v6)) vg vc vs := rfl
theorem qk_2560_384 : k0_pay80 k0_pay18 (k0_pay19 vg) (k0_pay71 v0 v1 v2 v3 v4 v5 v6) vc vs
    = turn (col3 (k0_pay93 (F := Ideal) v0 v1 v2 v3 v4 v5 v6)) vg vc vs := rfl
theorem qk_2560_256 : k0_pay79 k0_pay18 (k0_pay19 vg) (k0_pay77 (k0_pay71 v0 v1 v2 v3 v4 v5 v6)) (k0_pay78 (k0_pay71 v0 v1 v2 v3 v4 v5 v6)) vc vs
    = turn (col2 (k0_pay93 (F := Ideal) v0 v1 v2 v3 v4 v5 v6)) vg vc vs := rfl
theorem qk_2560_128 : k0_pay76 k0_pay18 (k0_pay19 vg) (k0_pay71 v0 v1 v2 v3 v4 v5 v6) vc vs
    = turn (col1 (k0_pay93 (F := Ideal) v0 v1 v2 v3 v4 v5 v6)) vg vc vs := rfl
theorem qk_2560_0 : k0_pay75 (k0_pay73 k0_pay18 (k0_pay19 vg) v0 v1 v2 v3 v4 v5 v6) (k0_pay74 (k0_pay19 vg) v0 v1 v2 v3 v4 v5 v6 vc) vs
    = turn (col0 (k0_pay93 (F := Ideal) v0 v1 v2 v3 v4 v5 v6)) vg vc vs := rfl
theorem qk_2048_384 : k0_pay70 k0_pay18 (k0_pay19 vg) (k0_pay63 v0 v1 v2 v3 v4 v5 v6) vc vs
    = turn (col3 (k0_pay93 (F := Ideal) v0 v1 v2 v3 v4 v5 v6)) vg vc vs := rfl
theorem qk_2048_256 : k0_pay69 k0_pay18 (k0_pay67 (k0_pay19 vg) (k0_pay63 v0 v1 v2 v3 v4 v5 v6)) (k0_pay68 (k0_pay19 vg) (k0_pay63 v0 v1 v2 v3 v4 v5 v6)) vc vs
    = turn (col2 (k0_pay93 (F := Ideal) v0 v1 v2 v3 v4 v5 v6)) vg vc vs := rfl
theorem qk_2048_128 : k0_pay66 k0_pay18 (k0_pay19 vg) (k0_pay63 v0 v1 v2 v3 v4 v5 v6) vc vs
    = turn (col1 (k0_pay93 (F := Ideal) v0 v1 v2 v3 v4 v5 v6)) vg vc vs := rfl
theorem qk_2048_0 : k0_pay65 (k0_pay64 k0_pay18 (k0_pay19 vg) v0 v1 v2 v3 v4 v5 v6 vc vs)
    = turn (col0 (k0_pay93 (F := Ideal) v0 v1 v2 v3 v4 v5 v6)) vg vc vs := rfl
theorem qk_1536_384 : k0_pay62 k0_pay18 (k0_pay19 vg) (k0_pay56 v0 v1 v2 (k0_pay55 v3) v4 v5 v6) vc vs
    = turn (col3 (k0_pay93 (F := Ideal) v0 v1 v2 v3 v4 v5 v6)) vg vc vs := rfl
theorem qk_1536_256 : k0_pay61 (k0_pay59 (k0_pay19 vg) (k0_pay56 v0 v1 v2 (k0_pay55 v3) v4 v5 v6)) (k0_pay60 k0_pay18 (k0_pay19 vg) (k0_pay56 v0 v1 v2 (k0_pay55 v3) v4 v5 v6)) vc vs
    = turn (col2 (k0_pay93 (F := Ideal) v0 v1 v2 v3 v4 v5 v6)) vg vc vs := rfl
theorem qk_1536_128 : k0_pay58 k0_pay18 (k0_pay19 vg) (k0_pay56 v0 v1 v2 (k0_pay55 v3) v4 v5 v6) vc vs
    = turn (col1 (k0_pay93 (F := Ideal) v0 v1 v2 v3 v4 v5 v6)) vg vc vs := rfl
theorem qk_1536_0 : k0_pay57 k0_pay18 (k0_pay19 vg) v0 v1 v2 (k0_pay55 v3) v4 v5 v6 vc vs
    = turn (col0 (k0_pay93 (F := Ideal) v0 v1 v2 v3 v4 v5 v6)) vg vc vs := rfl
theorem qk_1024_384 : k0_pay54 k0_pay18 (k0_pay19 vg) (k0_pay45 v0 v1 v2 (k0_pay43 v3) (k0_pay44 v4) v5 v6) vc vs
    = turn (col3 (k0_pay93 (F := Ideal) v0 v1 v2 v3 v4 v5 v6)) vg vc vs := rfl
theorem qk_1024_256 : k0_pay53 (k0_pay51 k0_pay18 (k0_pay19 vg) (k0_pay45 v0 v1 v2 (k0_pay43 v3) (k0_pay44 v4) v5 v6)) (k0_pay52 (k0_pay19 vg) (k0_pay45 v0 v1 v2 (k0_pay43 v3) (k0_pay44 v4) v5 v6) vc) vs
    = turn (col2 (k0_pay93 (F := Ideal) v0 v1 v2 v3 v4 v5 v6)) vg vc vs := rfl
theorem qk_1024_128 : k0_pay49 k0_pay18 (k0_pay19 vg) (k0_pay47 v0 v1 v2 (k0_pay43 v3) (k0_pay44 v4) v5 v6) (k0_pay48 v0 v1 v2 (k0_pay43 v3) (k0_pay44 v4) v5 v6) vc vs
    = turn (col1 (k0_pay93 (F := Ideal) v0 v1 v2 v3 v4 v5 v6)) vg vc vs := rfl
theorem qk_1024_0 : k0_pay46 k0_pay18 (k0_pay19 vg) v0 v1 v2 (k0_pay43 v3) (k0_pay44 v4) v5 v6 vc vs
    = turn (col0 (k0_pay93 (F := Ideal) v0 v1 v2 v3 v4 v5 v6)) vg vc vs := rfl
theorem qk_512_384 : k0_pay42 k0_pay18 (k0_pay19 vg) (k0_pay35 v0 v1 v2 (k0_pay33 v3) (k0_pay34 v4) v5 v6 (constant (F := Ideal) S512x512 FTy.f32 0#32)) vc vs
    = turn (col3 (k0_pay93 (F := Ideal) v0 v1 v2 v3 v4 v5 v6)) vg vc vs := rfl
theorem qk_512_256 : k0_pay41 k0_pay18 (k0_pay19 vg) (k0_pay35 v0 v1 v2 (k0_pay33 v3) (k0_pay34 v4) v5 v6 (constant (F := Ideal) S512x512 FTy.f32 0#32)) vc vs
    = turn (col2 (k0_pay93 (F := Ideal) v0 v1 v2 v3 v4 v5 v6)) vg vc vs := rfl
theorem qk_512_128 : k0_pay40 k0_pay18 (k0_pay19 vg) (k0_pay37 v0 v1 v2 (k0_pay33 v3) (k0_pay34 v4) v5 v6 (constant (F := Ideal) S512x512 FTy.f32 0#32)) (k0_pay38 v0 v1 v2 (k0_pay33 v3) (k0_pay34 v4) v5 v6 (constant (F := Ideal) S512x512 FTy.f32 0#32)) k0_pay39 vc vs
    = turn (col1 (k0_pay93 (F := Ideal) v0 v1 v2 v3 v4 v5 v6)) vg vc vs := rfl
theorem qk_512_0 : k0_pay36 k0_pay18 (k0_pay19 vg) v0 v1 v2 (k0_pay33 v3) (k0_pay34 v4) v5 v6 (constant (F := Ideal) S512x512 FTy.f32 0#32) vc vs
    = turn (col0 (k0_pay93 (F := Ideal) v0 v1 v2 v3 v4 v5 v6)) vg vc vs := rfl
theorem qk_0_384 : k0_pay32 k0_pay18 (k0_pay19 vg) (k0_pay31 (k0_pay25 v2 (k0_pay20 v3) (k0_pay21 v4) (k0_pay22 v0 v1) (k0_pay23 v5 v6) (k0_pay24 (F := Ideal)))) vc vs
    = turn (col3 (k0_pay93 (F := Ideal) v0 v1 v2 v3 v4 v5 v6)) vg vc vs := rfl
theorem qk_0_256 : k0_pay30 k0_pay18 (k0_pay19 vg) (k0_pay25 v2 (k0_pay20 v3) (k0_pay21 v4) (k0_pay22 v0 v1) (k0_pay23 v5 v6) (k0_pay24 (F := Ideal))) vc vs
    = turn (col2 (k0_pay93 (F := Ideal) v0 v1 v2 v3 v4 v5 v6)) vg vc vs := rfl
theorem qk_0_128 : k0_pay29 k0_pay18 (k0_pay27 v2 (k0_pay20 v3) (k0_pay21 v4) (k0_pay22 v0 v1) (k0_pay23 v5 v6) (k0_pay24 (F := Ideal))) (k0_pay28 (k0_pay19 vg)) vc vs
    = turn (col1 (k0_pay93 (F := Ideal) v0 v1 v2 v3 v4 v5 v6)) vg vc vs := rfl
theorem qk_0_0 : k0_pay26 k0_pay18 (k0_pay19 vg) v2 (k0_pay20 v3) (k0_pay21 v4) (k0_pay22 v0 v1) (k0_pay23 v5 v6) (k0_pay24 (F := Ideal)) vc vs
    = turn (col0 (k0_pay93 (F := Ideal) v0 v1 v2 v3 v4 v5 v6)) vg vc vs := rfl
theorem v_3584 : k0_pay1 v0 v1 v2 v3 v4 v5 v6
    = truncf .bf16 (k0_pay93 (F := Ideal) v0 v1 v2 v3 v4 v5 v6) bitsLt_bf16_f32 := rfl
theorem v_3072 : k0_pay17 v0 v1 v2 v3 v4 v5 v6
    = truncf .bf16 (k0_pay93 (F := Ideal) v0 v1 v2 v3 v4 v5 v6) bitsLt_bf16_f32 := rfl
theorem v_2560 : k0_pay16 v2 (k0_pay12 v3) (k0_pay13 v4) (k0_pay14 v0 v1) (k0_pay15 v5 v6)
    = truncf .bf16 (k0_pay93 (F := Ideal) v0 v1 v2 v3 v4 v5 v6) bitsLt_bf16_f32 := rfl
theorem v_2048 : k0_pay11 v0 v1 v2 v3 v4 v5 v6
    = truncf .bf16 (k0_pay93 (F := Ideal) v0 v1 v2 v3 v4 v5 v6) bitsLt_bf16_f32 := rfl
theorem v_1536 : k0_pay10 v0 v1 v2 v3 v4 v5 v6
    = truncf .bf16 (k0_pay93 (F := Ideal) v0 v1 v2 v3 v4 v5 v6) bitsLt_bf16_f32 := rfl
theorem v_1024 : k0_pay9 (k0_pay7 v5 v6) (k0_pay8 v0 v1 v2 v3 v4)
    = truncf .bf16 (k0_pay93 (F := Ideal) v0 v1 v2 v3 v4 v5 v6) bitsLt_bf16_f32 := rfl
theorem v_512 : k0_pay6 v0 v1 v2 (k0_pay4 v3) (k0_pay5 v4) v5 v6
    = truncf .bf16 (k0_pay93 (F := Ideal) v0 v1 v2 v3 v4 v5 v6) bitsLt_bf16_f32 := rfl
theorem v_0 : k0_pay3 v0 v1 v2 v3 v4 v5 v6
    = truncf .bf16 (k0_pay93 (F := Ideal) v0 v1 v2 v3 v4 v5 v6) bitsLt_bf16_f32 := rfl

/-- One entry of a linear tile, in terms of the vectors a row tile is computed from. -/
def tileLin (p q : Fin 512) : EReal :=
  (∑ k : Fin 6144, v0 (ix2 p k) * v1 (ix2 q k)) * v2 (ix2 p ⟨q % 128, Nat.mod_lt _ (by decide)⟩) * v3 (ix2 0 q) + v4 (ix2 0 q)
    + Spec.half * ∑ k : Fin 32, v5 (ix2 p k) * v6 (ix2 q k)

/-- A tile's entry. -/
theorem tile_at (p q : Fin 512) : k0_pay93 (F := Ideal) v0 v1 v2 v3 v4 v5 v6 (ix2 p q) = tileLin v0 v1 v2 v3 v4 v5 v6 p q := by
  have hrow : concatenate S512x512 1 [⟨S512x128, v2⟩, ⟨S512x128, v2⟩, ⟨S512x128, v2⟩, ⟨S512x128, v2⟩] concatenates_S512x128_S512x128_S512x128_S512x128_S512x512_d1 (ix2 p q)
      = v2 (ix2 p ⟨q % 128, Nat.mod_lt _ (by decide)⟩) := by
    pointwise
    blk_point []
  pointwise [k0_pay93, tileLin, hrow]

/-- An entry of the normalised head. -/
theorem normed_at (h : FVec Ideal S512x128 .f32) (p : Fin 512) (q : Fin 128) :
    normed h vg (ix2 p q) = Spec.normed (fun x => h (ix2 p x)) (fun x => vg (ix3 0 0 x)) q := by
  pointwise [normed, Spec.normed]

/-- The mask of the even columns. -/
theorem even_at (p : Fin 512) (q : Fin 128) : k0_pay18 (ix2 p q) = BitVec.ofBool (decide (q.val % 2 = 0)) := by
  pointwise [k0_pay18]
  revert q
  decide +kernel

/-- An entry of the turned head, over tables that repeat each cosine and carry each sine with its sign. -/
theorem turn_at (h : FVec Ideal S512x128 .f32) (c s : Fin 64 → EReal) (p : Fin 512) (q : Fin 128)
    (hc : vc (ix2 p q) = c ⟨q / 2, by omega⟩) (hs : vs (ix2 p q) = if q.val % 2 = 0 then -s ⟨q / 2, by omega⟩ else s ⟨q / 2, by omega⟩) :
    turn h vg vc vs (ix2 p q) = Spec.turned (Spec.normed (fun x => h (ix2 p x)) (fun x => vg (ix3 0 0 x))) c s q := by
  pointwise [turn]
  rw [even_at, hc, hs]
  simp only [normed_at, Spec.turned]
  by_cases e : q.val % 2 = 0
  · rw [decide_eq_true e, if_pos e, if_pos e]
    rw [show ∀ a b : EReal, Scalar.select (BitVec.ofBool true) a b = a from fun a b => by simp [Scalar.select]]
    have e1 : (q.val + 128 - 127) % 128 = (q.val + 1) % 128 := by omega
    simp only [e1]
    rw [sub_eq_add_neg, mul_comm (Spec.normed _ _ q), mul_comm (Spec.normed _ _ ⟨(q.val + 1) % 128, _⟩), EReal.neg_mul]
  · rw [decide_eq_false e, if_neg e, if_neg e]
    rw [show ∀ a b : EReal, Scalar.select (BitVec.ofBool false) a b = b from fun a b => by simp [Scalar.select]]
    have e1 : (q.val + 128 - 1) % 128 = q.val - 1 := by omega
    simp only [e1]
    rw [add_comm, mul_comm (Spec.normed _ _ q), mul_comm (Spec.normed _ _ ⟨q.val - 1, _⟩)]

/-- A head of the linear tile. -/
theorem col0_at (z : FVec Ideal S512x512 .f32) (p : Fin 512) (q : Fin 128) : col0 z (ix2 p q) = z (ix2 p ⟨0 + q, by omega⟩) := by
  pointwise [col0]
theorem col1_at (z : FVec Ideal S512x512 .f32) (p : Fin 512) (q : Fin 128) : col1 z (ix2 p q) = z (ix2 p ⟨128 + q, by omega⟩) := by
  pointwise [col1]
theorem col2_at (z : FVec Ideal S512x512 .f32) (p : Fin 512) (q : Fin 128) : col2 z (ix2 p q) = z (ix2 p ⟨256 + q, by omega⟩) := by
  pointwise [col2]
theorem col3_at (z : FVec Ideal S512x512 .f32) (p : Fin 512) (q : Fin 128) : col3 z (ix2 p q) = z (ix2 p ⟨384 + q, by omega⟩) := by
  pointwise [col3]

end Cert.QkvIdeal.RefValue

end
-- ==== Proof.QkvBlock.lean ====
/- The linear1_qkv kernel's staged blocks, and what each row tile stored at one grid point is in terms of the launch's arrays. -/
module
public import proofs.«01_k».proof.Proof.Gen.QkvIdeal.Frame
public import proofs.«01_k».proof.Proof.Spec
public import proofs.«01_k».proof.Proof.QkvTile
public import Idealize.ShloMosaic.Lib.Pipeline.ReadBack
@[expose] public section
set_option maxRecDepth 16384
noncomputable section
open Idealize.ShloMosaic Idealize.ShloMosaic.TcCoe Idealize.SL.Sem
open scoped BigOperators
namespace Cert.QkvIdeal.RefValue
open Cert.QkvIdeal Cert.QkvIdeal.Gen
variable (m : (ℓ : Loc nD τ sig) → Buf (Elt Ideal) ℓ)

/-- Every window's block index at every grid point. -/
theorem idx : ∀ t : Fin cfg0.N, win0_0.index t = ![0, 0] ∧ win0_1.index t = ![t.val, 0] ∧ win0_2.index t = ![0, 0]
    ∧ win0_3.index t = ![0, t.val] ∧ win0_4.index t = ![0, t.val] ∧ win0_5.index t = ![0, 0]
    ∧ win0_6.index t = ![t.val, 0] ∧ win0_7.index t = ![min (t.val / 12) 1, 0, 0] ∧ win0_8.index t = ![0, 0] ∧ win0_9.index t = ![0, 0]
    ∧ win0_10.index t = ![0, t.val] :=
  (by decide +kernel : ∀ t : Fin grid0.N, _)

/-- The grid has 36 points. -/
theorem lt_36 (t : Fin cfg0.N) : t.val < 36 := lt_of_lt_of_eq t.isLt (show cfg0.N = 36 from N_0)

/-- The column of the layer that column `q` of point `t`'s block is. -/
theorem col_lt (t : Fin cfg0.N) (q : Fin 512) : t.val * 512 + q < 18432 := by have := lt_36 t; omega

/-- The linear layer over the launch's arrays, the row scale read in the lane the kernel reads. -/
abbrev linAt (c : Dev nD) (r : Fin 4096) (n : Fin 18432) : EReal :=
  Spec.lin (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r ⟨n, by omega⟩ ⟨n % 128, Nat.mod_lt _ (by decide)⟩

/-- The gains, the cosines and the sines over the launch's arrays. -/
abbrev gq (c : Dev nD) (k : Fin 128) : EReal := (show FVec Ideal S128 .f32 from m ((c : Thread nD τ).loc main_arg7)) (ix1 k)
abbrev gk (c : Dev nD) (k : Fin 128) : EReal := (show FVec Ideal S128 .f32 from m ((c : Thread nD τ).loc main_arg8)) (ix1 k)
abbrev cosAt (c : Dev nD) (r : Fin 4096) (j : Fin 64) : EReal :=
  (show FVec Ideal S2x2048x64 .f32 from m ((c : Thread nD τ).loc main_arg9)) (ix3 ⟨r / 2048, by omega⟩ ⟨r % 2048, Nat.mod_lt _ (by decide)⟩ j)
abbrev sinAt (c : Dev nD) (r : Fin 4096) (j : Fin 64) : EReal :=
  (show FVec Ideal S2x2048x64 .f32 from m ((c : Thread nD τ).loc main_arg10)) (ix3 ⟨r / 2048, by omega⟩ ⟨r % 2048, Nat.mod_lt _ (by decide)⟩ j)

/-- A row tile of point `t`, loaded from the staged blocks, is that entry of the linear layer. -/
theorem lin_at (c : Dev nD) (t : Fin cfg0.N) (v0 : FVec Ideal S512x6144 .fp8e4m3) (v2 : FVec Ideal S512x128 .f32) (v5 : FVec Ideal S512x32 .bf16)
    (o : ℕ) (ho : o + 512 ≤ 4096)
    (h0 : ∀ (p : Fin 512) k, v0 (ix2 p k) = iblk m c 0 t (ix2 (⟨o + p, by omega⟩ : Fin 4096) k : S4096x6144.Idx))
    (h2 : ∀ (p : Fin 512) k, v2 (ix2 p k) = iblk m c 2 t (ix2 (⟨o + p, by omega⟩ : Fin 4096) k : S4096x128.Idx))
    (h5 : ∀ (p : Fin 512) k, v5 (ix2 p k) = iblk m c 5 t (ix2 (⟨o + p, by omega⟩ : Fin 4096) k : S4096x32.Idx))
    (p q : Fin 512) (r : Fin 4096) (n : Fin 18432) (hr : (r : ℕ) = o + p) (hn : (n : ℕ) = t.val * 512 + q) :
    tileLin v0 (iblk m c 1 t) v2 (iblk m c 3 t) (iblk m c 4 t) v5 (iblk m c 6 t) p q = linAt m c r n := by
  simp only [tileLin, linAt, Spec.lin, h0, h2, h5]
  blk_point [iblk, V, idx t]

/-- The staged cosine table: each cosine twice. -/
theorem cos_at (c : Dev nD) (t : Fin cfg0.N) (r : Fin 4096) (q : Fin 128) :
    iblk m c 8 t (ix2 r q : S4096x128.Idx) = cosAt m c r ⟨q / 2, by omega⟩ := by
  blk_point [iblk, V, idx t, cosAt]

/-- The staged sine table: each sine twice, negated in the even columns. -/
theorem sin_at (c : Dev nD) (t : Fin cfg0.N) (r : Fin 4096) (q : Fin 128) :
    iblk m c 9 t (ix2 r q : S4096x128.Idx) = if q.val % 2 = 0 then - sinAt m c r ⟨q / 2, by omega⟩ else sinAt m c r ⟨q / 2, by omega⟩ := by
  have e : (win0_9.blk t).view.emb (ix2 r q) = (ix2 r q : S4096x128.Idx) := by blk_ext [idx t]
  refine (congrArg (V m c main_v8) e).trans ?_
  entry_read
  pointwise
  by_cases hq : q.val % 2 = 0
  · simp only [dif_pos (show q.val % 2 < 1 by omega), if_pos hq]
  · simp only [dif_neg (show ¬ q.val % 2 < 1 by omega), if_neg hq]

/-- The staged gain: the query gain up to point 12, the key gain from there. -/
theorem gain_at (c : Dev nD) (t : Fin cfg0.N) (k : Fin 128) :
    iblk m c 7 t (ix3 0 0 k : S1x1x128.Idx) = if t.val < 12 then gq m c k else gk m c k := by
  have ht := lt_36 t
  have e : (win0_7.blk t).view.emb (ix3 0 0 k) = (ix3 (⟨min (t.val / 12) 1, by omega⟩ : Fin 2) 0 k : S2x1x128.Idx) := by blk_ext [idx t]
  refine (congrArg (V m c main_v12) e).trans ?_
  entry_read
  pointwise
  by_cases hq : t.val < 12
  · rw [dif_pos (by omega), if_pos hq]
  · rw [dif_neg (by omega), if_neg hq]

/-- The call's result over the launch's arrays. -/
def out (c : Dev nD) (r : Fin 4096) (n : Fin 18432) : EReal :=
  Spec.qkv (linAt m c r) (gq m c) (gk m c) (cosAt m c r) (sinAt m c r) n

/-- One head of one row tile, stored at rows `o` and on and columns `oj` and on: the turned query or key head. -/
theorem pieceQK (c : Dev nD) (t : Fin cfg0.N) (ht : t.val < 24) (v0 : FVec Ideal S512x6144 .fp8e4m3) (v2 : FVec Ideal S512x128 .f32)
    (v5 : FVec Ideal S512x32 .bf16) (vc vs : FVec Ideal S512x128 .f32) (h : FVec Ideal S512x128 .f32) (o oj : ℕ) (ho : o + 512 ≤ 4096)
    (hj : oj % 128 = 0 ∧ oj + 128 ≤ 512)
    (hh : ∀ (p : Fin 512) (q : Fin 128), h (ix2 p q)
      = k0_pay93 (F := Ideal) v0 (iblk m c 1 t) v2 (iblk m c 3 t) (iblk m c 4 t) v5 (iblk m c 6 t) (ix2 p (⟨oj + q, by omega⟩ : Fin 512)))
    (h0 : ∀ (p : Fin 512) k, v0 (ix2 p k) = iblk m c 0 t (ix2 (⟨o + p, by omega⟩ : Fin 4096) k : S4096x6144.Idx))
    (h2 : ∀ (p : Fin 512) k, v2 (ix2 p k) = iblk m c 2 t (ix2 (⟨o + p, by omega⟩ : Fin 4096) k : S4096x128.Idx))
    (h5 : ∀ (p : Fin 512) k, v5 (ix2 p k) = iblk m c 5 t (ix2 (⟨o + p, by omega⟩ : Fin 4096) k : S4096x32.Idx))
    (hc : ∀ (p : Fin 512) k, vc (ix2 p k) = iblk m c 8 t (ix2 (⟨o + p, by omega⟩ : Fin 4096) k : S4096x128.Idx))
    (hs : ∀ (p : Fin 512) k, vs (ix2 p k) = iblk m c 9 t (ix2 (⟨o + p, by omega⟩ : Fin 4096) k : S4096x128.Idx))
    (x : S512x128.Idx) (r : Fin 4096) (n : Fin 18432) (hr : (r : ℕ) = o + x 0) (hn : (n : ℕ) = t.val * 512 + (oj + x 1)) :
    turn h (iblk m c 7 t) vc vs x = out m c r n := by
  obtain ⟨p, q, rfl⟩ : ∃ (p : Fin 512) (q : Fin 128), x = ix2 p q := ⟨x 0, x 1, eq_ix2 x⟩
  replace hr : (r : ℕ) = o + p := hr
  replace hn : (n : ℕ) = t.val * 512 + (oj + q) := hn
  obtain ⟨hj1, hj2⟩ := hj
  have er : (⟨o + p, by omega⟩ : Fin 4096) = r := Fin.ext hr.symm
  have eh : (fun x : Fin 128 => h (ix2 p x)) = fun x : Fin 128 => linAt m c r ⟨n / 128 * 128 + x, by omega⟩ := by
    funext k
    exact (hh p k).trans ((tile_at ..).trans (lin_at m c t v0 v2 v5 o ho h0 h2 h5 p _ r _ hr (by dsimp only; omega)))
  have eg : (fun k : Fin 128 => iblk m c 7 t (ix3 0 0 k : S1x1x128.Idx)) = if n.val < 6144 then gq m c else gk m c := by
    funext k
    rw [gain_at]
    by_cases h12 : t.val < 12
    · rw [if_pos h12, if_pos (by omega)]
    · rw [if_neg h12, if_neg (by omega)]
  have eq : q = ⟨n % 128, Nat.mod_lt _ (by decide)⟩ := Fin.ext (by dsimp only; omega)
  refine (turn_at _ _ _ h (cosAt m c r) (sinAt m c r) p q ?_ ?_).trans ?_
  · rw [hc, er]; exact cos_at ..
  · rw [hs, er]; exact sin_at ..
  · rw [out, Spec.qkv, if_pos (by omega), ← eh, ← eg, ← eq]

/-- One row tile of the value columns: the linear layer. -/
theorem pieceV (c : Dev nD) (t : Fin cfg0.N) (ht : 24 ≤ t.val) (v0 : FVec Ideal S512x6144 .fp8e4m3) (v2 : FVec Ideal S512x128 .f32)
    (v5 : FVec Ideal S512x32 .bf16) (o : ℕ) (ho : o + 512 ≤ 4096)
    (h0 : ∀ (p : Fin 512) k, v0 (ix2 p k) = iblk m c 0 t (ix2 (⟨o + p, by omega⟩ : Fin 4096) k : S4096x6144.Idx))
    (h2 : ∀ (p : Fin 512) k, v2 (ix2 p k) = iblk m c 2 t (ix2 (⟨o + p, by omega⟩ : Fin 4096) k : S4096x128.Idx))
    (h5 : ∀ (p : Fin 512) k, v5 (ix2 p k) = iblk m c 5 t (ix2 (⟨o + p, by omega⟩ : Fin 4096) k : S4096x32.Idx))
    (x : S512x512.Idx) (r : Fin 4096) (n : Fin 18432) (hr : (r : ℕ) = o + x 0) (hn : (n : ℕ) = t.val * 512 + x 1) :
    truncf .bf16 (k0_pay93 (F := Ideal) v0 (iblk m c 1 t) v2 (iblk m c 3 t) (iblk m c 4 t) v5 (iblk m c 6 t)) bitsLt_bf16_f32 x = out m c r n := by
  rw [out, Spec.qkv, if_neg (by omega), eq_ix2 x]
  exact (tile_at ..).trans (lin_at m c t v0 v2 v5 o ho h0 h2 h5 (x 0) (x 1) r n hr hn)

end Cert.QkvIdeal.RefValue

end
-- ==== Proof.QkvArray.lean ====
/- What one grid point of the linear1_qkv kernel leaves in its output block, and the result array after the last point. -/
module
public import proofs.«01_k».proof.Proof.Gen.QkvIdeal.Frame
public import proofs.«01_k».proof.Proof.QkvBlock
public import Idealize.ShloMosaic.Lib.Pipeline.ReadBack
@[expose] public section
set_option maxRecDepth 16384
noncomputable section
open Idealize.ShloMosaic Idealize.ShloMosaic.TcCoe Idealize.SL.Sem
open scoped BigOperators
namespace Cert.QkvIdeal.RefValue
open Cert.QkvIdeal Cert.QkvIdeal.Gen
variable (m : (ℓ : Loc nD τ sig) → Buf (Elt Ideal) ℓ)

/-- A query or key point's block. -/
theorem out10_A (c : Dev nD) (t : Fin cfg0.N) (ht : t.val < 24) (y : S4096x512.Idx) :
    outsAt0 m c t.val t.isLt y = out m c (y 0) ⟨t.val * 512 + y 1, col_lt t (y 1)⟩ := by
  rw [outsAt0_A m c t (by omega) (by omega)]
  frame_out
  simp only [qk_3584_384, qk_3584_256, qk_3584_128, qk_3584_0, qk_3072_384, qk_3072_256, qk_3072_128, qk_3072_0, qk_2560_384, qk_2560_256, qk_2560_128, qk_2560_0, qk_2048_384, qk_2048_256, qk_2048_128, qk_2048_0, qk_1536_384, qk_1536_256, qk_1536_128, qk_1536_0, qk_1024_384, qk_1024_256, qk_1024_128, qk_1024_0, qk_512_384, qk_512_256, qk_512_128, qk_512_0, qk_0_384, qk_0_256, qk_0_128, qk_0_0]
  canon_tiles x h
  case piece0 => exact pieceQK m c t ht _ _ _ _ _ (col3 _) 3584 384 (by decide) (by decide) (col3_at _) (fun p k => by pointwise) (fun p k => by pointwise) (fun p k => by pointwise) (fun p k => by pointwise) (fun p k => by pointwise) x _ _ h0 (congrArg (t.val * 512 + ·) h1)
  case piece1 => exact pieceQK m c t ht _ _ _ _ _ (col2 _) 3584 256 (by decide) (by decide) (col2_at _) (fun p k => by pointwise) (fun p k => by pointwise) (fun p k => by pointwise) (fun p k => by pointwise) (fun p k => by pointwise) x _ _ h0 (congrArg (t.val * 512 + ·) h1)
  case piece2 => exact pieceQK m c t ht _ _ _ _ _ (col1 _) 3584 128 (by decide) (by decide) (col1_at _) (fun p k => by pointwise) (fun p k => by pointwise) (fun p k => by pointwise) (fun p k => by pointwise) (fun p k => by pointwise) x _ _ h0 (congrArg (t.val * 512 + ·) h1)
  case piece3 => exact pieceQK m c t ht _ _ _ _ _ (col0 _) 3584 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece4 => exact pieceQK m c t ht _ _ _ _ _ (col3 _) 3072 384 (by decide) (by decide) (col3_at _) (fun p k => by pointwise) (fun p k => by pointwise) (fun p k => by pointwise) (fun p k => by pointwise) (fun p k => by pointwise) x _ _ h0 (congrArg (t.val * 512 + ·) h1)
  case piece5 => exact pieceQK m c t ht _ _ _ _ _ (col2 _) 3072 256 (by decide) (by decide) (col2_at _) (fun p k => by pointwise) (fun p k => by pointwise) (fun p k => by pointwise) (fun p k => by pointwise) (fun p k => by pointwise) x _ _ h0 (congrArg (t.val * 512 + ·) h1)
  case piece6 => exact pieceQK m c t ht _ _ _ _ _ (col1 _) 3072 128 (by decide) (by decide) (col1_at _) (fun p k => by pointwise) (fun p k => by pointwise) (fun p k => by pointwise) (fun p k => by pointwise) (fun p k => by pointwise) x _ _ h0 (congrArg (t.val * 512 + ·) h1)
  case piece7 => exact pieceQK m c t ht _ _ _ _ _ (col0 _) 3072 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece8 => exact pieceQK m c t ht _ _ _ _ _ (col3 _) 2560 384 (by decide) (by decide) (col3_at _) (fun p k => by pointwise) (fun p k => by pointwise) (fun p k => by pointwise) (fun p k => by pointwise) (fun p k => by pointwise) x _ _ h0 (congrArg (t.val * 512 + ·) h1)
  case piece9 => exact pieceQK m c t ht _ _ _ _ _ (col2 _) 2560 256 (by decide) (by decide) (col2_at _) (fun p k => by pointwise) (fun p k => by pointwise) (fun p k => by pointwise) (fun p k => by pointwise) (fun p k => by pointwise) x _ _ h0 (congrArg (t.val * 512 + ·) h1)
  case piece10 => exact pieceQK m c t ht _ _ _ _ _ (col1 _) 2560 128 (by decide) (by decide) (col1_at _) (fun p k => by pointwise) (fun p k => by pointwise) (fun p k => by pointwise) (fun p k => by pointwise) (fun p k => by pointwise) x _ _ h0 (congrArg (t.val * 512 + ·) h1)
  case piece11 => exact pieceQK m c t ht _ _ _ _ _ (col0 _) 2560 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece12 => exact pieceQK m c t ht _ _ _ _ _ (col3 _) 2048 384 (by decide) (by decide) (col3_at _) (fun p k => by pointwise) (fun p k => by pointwise) (fun p k => by pointwise) (fun p k => by pointwise) (fun p k => by pointwise) x _ _ h0 (congrArg (t.val * 512 + ·) h1)
  case piece13 => exact pieceQK m c t ht _ _ _ _ _ (col2 _) 2048 256 (by decide) (by decide) (col2_at _) (fun p k => by pointwise) (fun p k => by pointwise) (fun p k => by pointwise) (fun p k => by pointwise) (fun p k => by pointwise) x _ _ h0 (congrArg (t.val * 512 + ·) h1)
  case piece14 => exact pieceQK m c t ht _ _ _ _ _ (col1 _) 2048 128 (by decide) (by decide) (col1_at _) (fun p k => by pointwise) (fun p k => by pointwise) (fun p k => by pointwise) (fun p k => by pointwise) (fun p k => by pointwise) x _ _ h0 (congrArg (t.val * 512 + ·) h1)
  case piece15 => exact pieceQK m c t ht _ _ _ _ _ (col0 _) 2048 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece16 => exact pieceQK m c t ht _ _ _ _ _ (col3 _) 1536 384 (by decide) (by decide) (col3_at _) (fun p k => by pointwise) (fun p k => by pointwise) (fun p k => by pointwise) (fun p k => by pointwise) (fun p k => by pointwise) x _ _ h0 (congrArg (t.val * 512 + ·) h1)
  case piece17 => exact pieceQK m c t ht _ _ _ _ _ (col2 _) 1536 256 (by decide) (by decide) (col2_at _) (fun p k => by pointwise) (fun p k => by pointwise) (fun p k => by pointwise) (fun p k => by pointwise) (fun p k => by pointwise) x _ _ h0 (congrArg (t.val * 512 + ·) h1)
  case piece18 => exact pieceQK m c t ht _ _ _ _ _ (col1 _) 1536 128 (by decide) (by decide) (col1_at _) (fun p k => by pointwise) (fun p k => by pointwise) (fun p k => by pointwise) (fun p k => by pointwise) (fun p k => by pointwise) x _ _ h0 (congrArg (t.val * 512 + ·) h1)
  case piece19 => exact pieceQK m c t ht _ _ _ _ _ (col0 _) 1536 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece20 => exact pieceQK m c t ht _ _ _ _ _ (col3 _) 1024 384 (by decide) (by decide) (col3_at _) (fun p k => by pointwise) (fun p k => by pointwise) (fun p k => by pointwise) (fun p k => by pointwise) (fun p k => by pointwise) x _ _ h0 (congrArg (t.val * 512 + ·) h1)
  case piece21 => exact pieceQK m c t ht _ _ _ _ _ (col2 _) 1024 256 (by decide) (by decide) (col2_at _) (fun p k => by pointwise) (fun p k => by pointwise) (fun p k => by pointwise) (fun p k => by pointwise) (fun p k => by pointwise) x _ _ h0 (congrArg (t.val * 512 + ·) h1)
  case piece22 => exact pieceQK m c t ht _ _ _ _ _ (col1 _) 1024 128 (by decide) (by decide) (col1_at _) (fun p k => by pointwise) (fun p k => by pointwise) (fun p k => by pointwise) (fun p k => by pointwise) (fun p k => by pointwise) x _ _ h0 (congrArg (t.val * 512 + ·) h1)
  case piece23 => exact pieceQK m c t ht _ _ _ _ _ (col0 _) 1024 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece24 => exact pieceQK m c t ht _ _ _ _ _ (col3 _) 512 384 (by decide) (by decide) (col3_at _) (fun p k => by pointwise) (fun p k => by pointwise) (fun p k => by pointwise) (fun p k => by pointwise) (fun p k => by pointwise) x _ _ h0 (congrArg (t.val * 512 + ·) h1)
  case piece25 => exact pieceQK m c t ht _ _ _ _ _ (col2 _) 512 256 (by decide) (by decide) (col2_at _) (fun p k => by pointwise) (fun p k => by pointwise) (fun p k => by pointwise) (fun p k => by pointwise) (fun p k => by pointwise) x _ _ h0 (congrArg (t.val * 512 + ·) h1)
  case piece26 => exact pieceQK m c t ht _ _ _ _ _ (col1 _) 512 128 (by decide) (by decide) (col1_at _) (fun p k => by pointwise) (fun p k => by pointwise) (fun p k => by pointwise) (fun p k => by pointwise) (fun p k => by pointwise) x _ _ h0 (congrArg (t.val * 512 + ·) h1)
  case piece27 => exact pieceQK m c t ht _ _ _ _ _ (col0 _) 512 0 (by decide) (by decide) (col0_at _) (fun p k => by pointwise) (fun p k => by pointwise) (fun p k => by pointwise) (fun p k => by pointwise) (fun p k => by pointwise) x _ _ h0 (congrArg (t.val * 512 + ·) (h1.trans (Nat.zero_add _).symm))
  case piece28 => exact pieceQK m c t ht _ _ _ _ _ (col3 _) 0 384 (by decide) (by decide) (col3_at _) (fun p k => by pointwise) (fun p k => by pointwise) (fun p k => by pointwise) (fun p k => by pointwise) (fun p k => by pointwise) x _ _ (h0.trans (Nat.zero_add _).symm) (congrArg (t.val * 512 + ·) h1)
  case piece29 => exact pieceQK m c t ht _ _ _ _ _ (col2 _) 0 256 (by decide) (by decide) (col2_at _) (fun p k => by pointwise) (fun p k => by pointwise) (fun p k => by pointwise) (fun p k => by pointwise) (fun p k => by pointwise) x _ _ (h0.trans (Nat.zero_add _).symm) (congrArg (t.val * 512 + ·) h1)
  case piece30 => exact pieceQK m c t ht _ _ _ _ _ (col1 _) 0 128 (by decide) (by decide) (col1_at _) (fun p k => by pointwise) (fun p k => by pointwise) (fun p k => by pointwise) (fun p k => by pointwise) (fun p k => by pointwise) x _ _ (h0.trans (Nat.zero_add _).symm) (congrArg (t.val * 512 + ·) h1)
  case piece31 => exact pieceQK m c t ht _ _ _ _ _ (col0 _) 0 0 (by decide) (by decide) (col0_at _) (fun p k => by pointwise) (fun p k => by pointwise) (fun p k => by pointwise) (fun p k => by pointwise) (fun p k => by pointwise) x _ _ (h0.trans (Nat.zero_add _).symm) (congrArg (t.val * 512 + ·) (h1.trans (Nat.zero_add _).symm))

/-- A value point's block. -/
theorem out10_B (c : Dev nD) (t : Fin cfg0.N) (ht : 24 ≤ t.val) (y : S4096x512.Idx) :
    outsAt0 m c t.val t.isLt y = out m c (y 0) ⟨t.val * 512 + y 1, col_lt t (y 1)⟩ := by
  rw [outsAt0_B m c t (by omega) (by omega)]
  frame_out
  simp only [v_3584, v_3072, v_2560, v_2048, v_1536, v_1024, v_512, v_0]
  canon_tiles x h
  case piece0 => exact pieceV m c t (by omega) _ _ _ 3584 (by decide) (fun p k => by pointwise) (fun p k => by pointwise) (fun p k => by pointwise) x _ _ h0 (congrArg (t.val * 512 + ·) h1)
  case piece1 => exact pieceV m c t (by omega) _ _ _ 3072 (by decide) (fun p k => by pointwise) (fun p k => by pointwise) (fun p k => by pointwise) x _ _ h0 (congrArg (t.val * 512 + ·) h1)
  case piece2 => exact pieceV m c t (by omega) _ _ _ 2560 (by decide) (fun p k => by pointwise) (fun p k => by pointwise) (fun p k => by pointwise) x _ _ h0 (congrArg (t.val * 512 + ·) h1)
  case piece3 => exact pieceV m c t (by omega) _ _ _ 2048 (by decide) (fun p k => by pointwise) (fun p k => by pointwise) (fun p k => by pointwise) x _ _ h0 (congrArg (t.val * 512 + ·) h1)
  case piece4 => exact pieceV m c t (by omega) _ _ _ 1536 (by decide) (fun p k => by pointwise) (fun p k => by pointwise) (fun p k => by pointwise) x _ _ h0 (congrArg (t.val * 512 + ·) h1)
  case piece5 => exact pieceV m c t (by omega) _ _ _ 1024 (by decide) (fun p k => by pointwise) (fun p k => by pointwise) (fun p k => by pointwise) x _ _ h0 (congrArg (t.val * 512 + ·) h1)
  case piece6 => exact pieceV m c t (by omega) _ _ _ 512 (by decide) (fun p k => by pointwise) (fun p k => by pointwise) (fun p k => by pointwise) x _ _ h0 (congrArg (t.val * 512 + ·) h1)
  case piece7 => exact pieceV m c t (by omega) _ _ _ 0 (by decide) (fun p k => by pointwise) (fun p k => by pointwise) (fun p k => by pointwise) x _ _ (h0.trans (Nat.zero_add _).symm) (congrArg (t.val * 512 + ·) h1)

/-- The whole result array: after the run it holds the query, key and value columns. -/
def result (c : Dev nD) : FVec Ideal S4096x18432 .bf16 := fun y => out m c (y 0) (y 1)

/-- The result array after the run. -/
theorem final_10 (c : Dev nD) : (dats m 0 c).arrAt 10 (cfgs 0).N = result m c := by
  refine (dats m 0 c).arrAt_eq_of_covers 10 _ (by decide +kernel) fun t hf y => ?_
  blk_simp
  rw [after0_10]
  have e : outsAt0 m c t.val t.isLt y = out m c (y 0) ⟨t.val * 512 + (y 1 : Fin 512), col_lt t (y 1)⟩ := by
    by_cases ht : t.val < 24
    · exact out10_A m c t ht y
    · exact out10_B m c t (by omega) y
  refine e.trans (congrArg (result m c) (a₁ := ix2 (y 0) ⟨t.val * 512 + (y 1 : Fin 512), col_lt t (y 1)⟩) ?_)
  blk_ext [idx t]

end Cert.QkvIdeal.RefValue

end
-- ==== Proof.QkvRef.lean ====
/- What the reference of the linear1_qkv call leaves in its result array. -/
module
public import proofs.«01_k».proof.Proof.Gen.QkvRefIdeal.Frame
public import proofs.«01_k».proof.Proof.Spec
@[expose] public section
set_option maxRecDepth 16384
noncomputable section
open Idealize.ShloMosaic Idealize.ShloMosaic.TcCoe Idealize.SL.Sem
open scoped BigOperators
namespace Cert.QkvRefIdeal.RefValue
open Cert.QkvRefIdeal Cert.QkvRefIdeal.Gen
variable (m : (ℓ : Loc nD τ sig) → Buf (Elt Ideal) ℓ)

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0] ∧ win0_8.index t = ![0]
    ∧ win0_9.index t = ![0, 0] ∧ win0_10.index t = ![0, 0] ∧ win0_11.index t = ![0, 0] :=
  (by decide +kernel : ∀ t : Fin grid0.N, _)

/-- The reference's linear layer, entry by entry. -/
theorem lin_at (v0 : FVec Ideal S4096x6144 .fp8e4m3) (v1 : FVec Ideal S18432x6144 .fp8e4m3) (v2 : FVec Ideal S4096x1 .f32)
    (v3 v4 : FVec Ideal S1x18432 .f32) (v5 : FVec Ideal S4096x32 .bf16) (v6 : FVec Ideal S18432x32 .bf16) (p : Fin 4096) (q : Fin 18432) :
    k0_pay4 (F := Ideal) v0 v1 v2 v3 v4 v5 v6 (ix2 p q) = (∑ k : Fin 6144, v0 (ix2 p k) * v1 (ix2 q k)) * v2 (ix2 p 0) * v3 (ix2 0 q) + v4 (ix2 0 q)
      + Spec.half * ∑ k : Fin 32, v5 (ix2 p k) * v6 (ix2 q k) := by
  pointwise [k0_pay4]

variable (z : FVec Ideal S4096x18432 .f32) (gq gk : FVec Ideal S128 .f32) (co si : FVec Ideal S4096x64 .f32)

/-- The query columns as heads. -/
def heads : FVec Ideal S4096x48x128 .f32 :=
  shapeCast S4096x48x128 (extractStridedSlice S4096x6144 ![0, 0] z slices_S4096x18432_o0_0_S4096x6144) shapeCasts_S4096x6144_S4096x48x128

/-- The squares of each head summed. -/
def squares : FVec Ideal S4096x48x1 .f32 :=
  shapeCast S4096x48x1 (multiReduction .add [2] S4096x48 (mulf (heads z) (heads z)) 0x00000000#32 reduces_S4096x48x128_S4096x48 (.inl rfl) rfl) shapeCasts_S4096x48_S4096x48x1

/-- The key columns. -/
def keys : FVec Ideal S4096x6144 .f32 := extractStridedSlice S4096x6144 ![0, 6144] z slices_S4096x18432_o0_6144_S4096x6144

/-- The value columns. -/
def values : FVec Ideal S4096x6144 .f32 := extractStridedSlice S4096x6144 ![0, 12288] z slices_S4096x18432_o0_12288_S4096x6144

/-- A query column: its head normalised, scaled and turned. -/
theorem query_at (p : Fin 4096) (q : Fin 6144) : k0_pay9 gq co si (heads z) (squares z) (ix2 p q)
    = Spec.turned (Spec.normed (fun x => z (ix2 p ⟨q / 128 * 128 + x, by omega⟩)) (fun x => gq (ix1 x))) (fun j => co (ix2 p j)) (fun j => si (ix2 p j))
      ⟨q % 128, Nat.mod_lt _ (by decide)⟩ := by
  pointwise [k0_pay9, heads, squares, Spec.normed, Spec.turned]
  by_cases hq : q.val % 2 = 0
  · simp only [dif_pos (show q.val % 2 < 1 by omega), if_pos (show q.val % 128 % 2 = 0 by omega)]
    blk_point []
  · simp only [dif_neg (show ¬ q.val % 2 < 1 by omega), if_neg (show ¬ q.val % 128 % 2 = 0 by omega)]
    blk_point []

/-- The turned key columns, before they are laid out as columns. -/
theorem key_at (p : Fin 4096) (q : Fin 6144) :
    k0_pay1 (values z) (k0_pay9 gq co si (heads z) (squares z)) (k0_pay11 gk (keys z)) (k0_pay12 gk (keys z)) (k0_pay13 co) (k0_pay14 si)
      (k0_pay15 gk co (keys z)) (k0_pay16 si) (ix2 p ⟨6144 + q, by omega⟩)
    = Spec.turned (Spec.normed (fun x => z (ix2 p ⟨6144 + q / 128 * 128 + x, by omega⟩)) (fun x => gk (ix1 x))) (fun j => co (ix2 p j)) (fun j => si (ix2 p j))
      ⟨q % 128, Nat.mod_lt _ (by decide)⟩ := by
  pointwise [k0_pay1, k0_pay10, k0_pay11, k0_pay12, k0_pay13, k0_pay14, k0_pay15, k0_pay16, keys, Spec.normed, Spec.turned]
  by_cases hq : q.val % 2 = 0
  · simp only [dif_pos (show q.val % 2 < 1 by omega), if_pos (show q.val % 128 % 2 = 0 by omega)]
    blk_point []
  · simp only [dif_neg (show ¬ q.val % 2 < 1 by omega), if_neg (show ¬ q.val % 128 % 2 = 0 by omega)]
    blk_point []

/-- Three blocks of columns joined, read in the first. -/
theorem cat_first (a b d : FVec Ideal S4096x6144 .f32) (p : Fin 4096) (n : Fin 18432) (q : Fin 6144) (hq : n.val = q) :
    concatenate S4096x18432 1 [⟨S4096x6144, a⟩, ⟨S4096x6144, b⟩, ⟨S4096x6144, d⟩] concatenates_S4096x6144_S4096x6144_S4096x6144_S4096x18432_d1 (ix2 p n) = a (ix2 p q) := by
  rw [concatenate_cons_apply, concatenateAt_cons]
  refine (dif_pos (show n.val < 6144 by omega)).trans ?_
  refine congrArg a (funext fun x => ?_)
  match x with
  | 0 => rfl
  | 1 => exact Fin.ext hq

/-- The first third of the result's columns are the query columns. -/
theorem first_at (v31 v66 : FVec Ideal S4096x6144 .f32) (v83 v85 : FVec Ideal S4096x48x64 .f32) (v86 v87 : FVec Ideal S4096x1x64 .f32)
    (v89 v90 : FVec Ideal S4096x48x64 .f32) (p : Fin 4096) (n : Fin 18432) (q : Fin 6144) (hq : n.val = q) :
    k0_pay1 v31 v66 v83 v85 v86 v87 v89 v90 (ix2 p n) = v66 (ix2 p q) :=
  cat_first v66 _ v31 p n q hq

/-- Three blocks of columns joined, read in the last. -/
theorem cat_last (a b d : FVec Ideal S4096x6144 .f32) (p : Fin 4096) (n : Fin 18432) (q : Fin 6144) (hq : n.val = 12288 + q) :
    concatenate S4096x18432 1 [⟨S4096x6144, a⟩, ⟨S4096x6144, b⟩, ⟨S4096x6144, d⟩] concatenates_S4096x6144_S4096x6144_S4096x6144_S4096x18432_d1 (ix2 p n) = d (ix2 p q) := by
  rw [concatenate_cons_apply, concatenateAt_cons]
  refine (dif_neg (show ¬ n.val < 6144 by omega)).trans ?_
  rw [concatenateAt_cons]
  refine (dif_neg (show ¬ n.val - 6144 < 6144 by omega)).trans ?_
  rw [concatenateAt_singleton]
  refine congrArg d (funext fun x => ?_)
  match x with
  | 0 => rfl
  | 1 => exact Fin.ext (show n.val - 6144 - 6144 = q by omega)

/-- The last third are the value columns. -/
theorem last_at (v31 v66 : FVec Ideal S4096x6144 .f32) (v83 v85 : FVec Ideal S4096x48x64 .f32) (v86 v87 : FVec Ideal S4096x1x64 .f32)
    (v89 v90 : FVec Ideal S4096x48x64 .f32) (p : Fin 4096) (n : Fin 18432) (q : Fin 6144) (hq : n.val = 12288 + q) :
    k0_pay1 v31 v66 v83 v85 v86 v87 v89 v90 (ix2 p n) = v31 (ix2 p q) :=
  cat_last v66 _ v31 p n q hq

/-- A value column is the linear layer's own. -/
theorem values_at (p : Fin 4096) (q : Fin 6144) : values z (ix2 p q) = z (ix2 p ⟨12288 + q, by omega⟩) := by
  pointwise [values]

/-- The body's result, entry by entry. -/
theorem body_at (p : Fin 4096) (n : Fin 18432) :
    k0_pay1 (values z) (k0_pay9 gq co si (heads z) (squares z)) (k0_pay11 gk (keys z)) (k0_pay12 gk (keys z)) (k0_pay13 co) (k0_pay14 si)
      (k0_pay15 gk co (keys z)) (k0_pay16 si) (ix2 p n)
    = Spec.qkv (fun n => z (ix2 p n)) (fun x => gq (ix1 x)) (fun x => gk (ix1 x)) (fun j => co (ix2 p j)) (fun j => si (ix2 p j)) n := by
  by_cases h1 : n.val < 6144
  · rw [Spec.qkv, if_pos (by omega), if_pos h1]
    exact (first_at _ _ _ _ _ _ _ _ p n ⟨n, h1⟩ rfl).trans (query_at z gq co si p ⟨n, h1⟩)
  · by_cases h2 : n.val < 12288
    · rw [Spec.qkv, if_pos h2, if_neg h1]
      obtain ⟨q, hq⟩ : ∃ q : Fin 6144, n.val = 6144 + q := ⟨⟨n - 6144, by omega⟩, by dsimp only; omega⟩
      have e0 : n = ⟨6144 + q, by omega⟩ := Fin.ext hq
      have e1 : ∀ x : Fin 128, 6144 + q.val / 128 * 128 + x = (6144 + q) / 128 * 128 + x := by omega
      have e2 : (6144 + q.val) % 128 = q % 128 := by omega
      rw [e0]
      refine (key_at z gq gk co si p q).trans ?_
      simp only [e1, e2]
    · rw [Spec.qkv, if_neg h2]
      obtain ⟨q, hq⟩ : ∃ q : Fin 6144, n.val = 12288 + q := ⟨⟨n - 12288, by omega⟩, by dsimp only; omega⟩
      exact (last_at _ _ _ _ _ _ _ _ p n q hq).trans ((values_at z p q).trans (congrArg z (congrArg (ix2 p) (Fin.ext hq.symm))))

/-- The linear layer over the launch's arrays, the row scale read in lane 0. -/
abbrev lin0 (c : Dev nD) (r : Fin 4096) (n : Fin 18432) : EReal :=
  Spec.lin (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r ⟨n, by omega⟩ 0

/-- The gains, the cosines and the sines over the launch's arrays. -/
abbrev gq0 (c : Dev nD) (k : Fin 128) : EReal := (show FVec Ideal S128 .f32 from m ((c : Thread nD τ).loc main_arg7)) (ix1 k)
abbrev gk0 (c : Dev nD) (k : Fin 128) : EReal := (show FVec Ideal S128 .f32 from m ((c : Thread nD τ).loc main_arg8)) (ix1 k)
abbrev cos0 (c : Dev nD) (r : Fin 4096) (j : Fin 64) : EReal :=
  (show FVec Ideal S2x2048x64 .f32 from m ((c : Thread nD τ).loc main_arg9)) (ix3 ⟨r / 2048, by omega⟩ ⟨r % 2048, Nat.mod_lt _ (by decide)⟩ j)
abbrev sin0 (c : Dev nD) (r : Fin 4096) (j : Fin 64) : EReal :=
  (show FVec Ideal S2x2048x64 .f32 from m ((c : Thread nD τ).loc main_arg10)) (ix3 ⟨r / 2048, by omega⟩ ⟨r % 2048, Nat.mod_lt _ (by decide)⟩ j)

/-- The whole result array. -/
def result (c : Dev nD) : FVec Ideal S4096x18432 .bf16 := fun y =>
  Spec.qkv (lin0 m c (y 0)) (gq0 m c) (gk0 m c) (cos0 m c (y 0)) (sin0 m c (y 0)) (y 1)

/-- The staged weight rows. -/
theorem w1 (c : Dev nD) (t : Fin cfg0.N) (q : Fin 18432) (k : Fin 6144) : iblk m c 1 t (ix2 q k : S18432x6144.Idx)
    = (show FVec Ideal S36864x6144 .fp8e4m3 from m ((c : Thread nD τ).loc main_arg1)) (ix2 ⟨q, by omega⟩ k) := by
  have e : (win0_1.blk t).view.emb (ix2 q k) = (ix2 q k : S18432x6144.Idx) := by blk_ext [idx t]
  refine (congrArg (V m c main_v0) e).trans ?_
  entry_read
  exact Spec.slice_rows _ _ q k _

/-- The staged low-rank rows. -/
theorem w6 (c : Dev nD) (t : Fin cfg0.N) (q : Fin 18432) (k : Fin 32) : iblk m c 6 t (ix2 q k : S18432x32.Idx)
    = (show FVec Ideal S36864x32 .bf16 from m ((c : Thread nD τ).loc main_arg6)) (ix2 ⟨q, by omega⟩ k) := by
  have e : (win0_6.blk t).view.emb (ix2 q k) = (ix2 q k : S18432x32.Idx) := by blk_ext [idx t]
  refine (congrArg (V m c main_v6) e).trans ?_
  entry_read
  exact Spec.slice_rows _ _ q k _

/-- The staged column scales. -/
theorem w3 (c : Dev nD) (t : Fin cfg0.N) (q : Fin 18432) : iblk m c 3 t (ix2 0 q : S1x18432.Idx)
    = (show FVec Ideal S36864 .f32 from m ((c : Thread nD τ).loc main_arg3)) (ix1 ⟨q, by omega⟩) := by
  have e : (win0_3.blk t).view.emb (ix2 0 q) = (ix2 0 q : S1x18432.Idx) := by blk_ext [idx t]
  refine (congrArg (V m c main_v3) e).trans ?_
  entry_read
  refine Eq.trans ?_ (Spec.slice_vec _ slices_S36864_S18432_0 q _)
  pointwise

/-- The staged biases. -/
theorem w4 (c : Dev nD) (t : Fin cfg0.N) (q : Fin 18432) : iblk m c 4 t (ix2 0 q : S1x18432.Idx)
    = (show FVec Ideal S36864 .f32 from m ((c : Thread nD τ).loc main_arg4)) (ix1 ⟨q, by omega⟩) := by
  have e : (win0_4.blk t).view.emb (ix2 0 q) = (ix2 0 q : S1x18432.Idx) := by blk_ext [idx t]
  refine (congrArg (V m c main_v5) e).trans ?_
  entry_read
  refine Eq.trans ?_ (Spec.slice_vec _ slices_S36864_S18432_0 q _)
  pointwise

/-- The reference's linear layer over the launch's arrays. -/
theorem lin_blk (c : Dev nD) (t : Fin cfg0.N) (p : Fin 4096) (q : Fin 18432) :
    k0_pay4 (F := Ideal) (iblk m c 0 t) (iblk m c 1 t) (iblk m c 2 t) (iblk m c 3 t) (iblk m c 4 t) (iblk m c 5 t) (iblk m c 6 t) (ix2 p q) = lin0 m c p q := by
  refine (lin_at ..).trans ?_
  simp only [lin0, Spec.lin, w1, w3, w4, w6]
  blk_point [iblk, V, idx t]

/-! The gains and the tables over the launch's arrays. -/

theorem gq_blk (c : Dev nD) (t : Fin cfg0.N) (k : Fin 128) : iblk m c 7 t (ix1 k : S128.Idx) = gq0 m c k := by
  blk_point [iblk, V, idx t, gq0]
theorem gk_blk (c : Dev nD) (t : Fin cfg0.N) (k : Fin 128) : iblk m c 8 t (ix1 k : S128.Idx) = gk0 m c k := by
  blk_point [iblk, V, idx t, gk0]
theorem cos_blk (c : Dev nD) (t : Fin cfg0.N) (p : Fin 4096) (j : Fin 64) : k0_pay2 (F := Ideal) (iblk m c 9 t) (ix2 p j) = cos0 m c p j := by
  pointwise [k0_pay2]
  blk_point [iblk, V, idx t, cos0]
theorem sin_blk (c : Dev nD) (t : Fin cfg0.N) (p : Fin 4096) (j : Fin 64) : k0_pay3 (F := Ideal) (iblk m c 10 t) (ix2 p j) = sin0 m c p j := by
  pointwise [k0_pay3]
  blk_point [iblk, V, idx t, sin0]

set_option maxHeartbeats 1600000 in
/-- The result array after the run. -/
theorem final_11 (c : Dev nD) : (dats m 0 c).arrAt 11 (cfgs 0).N = result m c := by
  refine (dats m 0 c).arrAt_eq_of_covers 11 _ (by decide +kernel) fun t hf y => ?_
  blk_simp; rw [after0_11]; frame_out
  simp only [k0_pay17, k0_pay18, k0_pay19]
  frame_out
  obtain ⟨p, q, rfl⟩ : ∃ (p : Fin 4096) (q : Fin 18432), y = ix2 p q := ⟨y 0, y 1, eq_ix2 y⟩
  refine (body_at (k0_pay4 (F := Ideal) (iblk m c 0 t) (iblk m c 1 t) (iblk m c 2 t) (iblk m c 3 t) (iblk m c 4 t) (iblk m c 5 t) (iblk m c 6 t))
    (iblk m c 7 t) (iblk m c 8 t) (k0_pay2 (F := Ideal) (iblk m c 9 t)) (k0_pay3 (F := Ideal) (iblk m c 10 t)) p q).trans ?_
  refine Eq.trans (b := Spec.qkv (lin0 m c p) (gq0 m c) (gk0 m c) (cos0 m c p) (sin0 m c p) q) ?_ ?_
  · exact Spec.qkv_congr (funext fun n => lin_blk m c t p n) (funext fun k => gq_blk m c t k) (funext fun k => gk_blk m c t k)
      (funext fun j => cos_blk m c t p j) (funext fun j => sin_blk m c t p j) q
  · refine congrArg (result m c) (a₁ := ix2 p q) ?_
    blk_ext [idx t]

end Cert.QkvRefIdeal.RefValue

end
-- ==== Proof.QkvEq.lean ====
/- The linear1_qkv call equals its reference: under the precondition that a row's scale is the same in every lane, the two
   arrays of query, key and value heads agree. -/
module
public import proofs.«01_k».proof.Defs
public import proofs.«01_k».proof.Proof.Gen.QkvIdeal.Value
public import proofs.«01_k».proof.Proof.Gen.QkvRefIdeal.Value
public import proofs.«01_k».proof.Proof.Gen.Pre_qkv_rows_constant
public import proofs.«01_k».proof.Proof.QkvArray
public import proofs.«01_k».proof.Proof.QkvRef
@[expose] public section
set_option maxRecDepth 16384
noncomputable section
open Idealize.ShloMosaic Idealize.ShloMosaic.TcCoe Idealize.SL.Sem
open scoped BigOperators
namespace Cert.QkvEq

/-- The precondition, read: a row's scale is the same in every lane. -/
theorem rows (m : (ℓ : Loc QkvIdeal.nD QkvIdeal.τ QkvIdeal.sig) → Buf (Elt Ideal) ℓ) (h : Pre_QkvIdeal_qkv_rows_constant m) (c : Dev QkvIdeal.nD)
    (r : Fin 4096) (l : Fin 128) : (show FVec Ideal ⟨2, ![4096, 128]⟩ .f32 from m ((c : Thread QkvIdeal.nD QkvIdeal.τ).loc QkvIdeal.main_arg2)) (ix2 r l)
      = (show FVec Ideal ⟨2, ![4096, 128]⟩ .f32 from m ((c : Thread QkvIdeal.nD QkvIdeal.τ).loc QkvIdeal.main_arg2)) (ix2 r 0) := by
  have e := congrFun (h c) (ix2 r l : Pre_qkv_rows_constant.S4096x128.Idx)
  revert e
  generalize m ((c : Thread QkvIdeal.nD QkvIdeal.τ).loc QkvIdeal.main_arg2) = S
  pointwise [Pre_qkv_rows_constant.fn]
  intro e
  by_contra hne
  rw [decide_eq_false hne] at e
  exact absurd e (by decide)

/-- Under the precondition the kernel's linear layer is the reference's. -/
theorem lin_eq (m : (ℓ : Loc QkvIdeal.nD QkvIdeal.τ QkvIdeal.sig) → Buf (Elt Ideal) ℓ) (m' : (ℓ : Loc QkvRefIdeal.nD QkvRefIdeal.τ QkvRefIdeal.sig) → Buf (Elt Ideal) ℓ)
    (h : Pre_QkvIdeal_qkv_rows_constant m) (c : Dev QkvIdeal.nD)
    (h0 : m' ((c : Thread QkvRefIdeal.nD QkvRefIdeal.τ).loc QkvRefIdeal.main_arg0) = m ((c : Thread QkvIdeal.nD QkvIdeal.τ).loc QkvIdeal.main_arg0))
    (h1 : m' ((c : Thread QkvRefIdeal.nD QkvRefIdeal.τ).loc QkvRefIdeal.main_arg1) = m ((c : Thread QkvIdeal.nD QkvIdeal.τ).loc QkvIdeal.main_arg1))
    (h2 : m' ((c : Thread QkvRefIdeal.nD QkvRefIdeal.τ).loc QkvRefIdeal.main_arg2) = m ((c : Thread QkvIdeal.nD QkvIdeal.τ).loc QkvIdeal.main_arg2))
    (h3 : m' ((c : Thread QkvRefIdeal.nD QkvRefIdeal.τ).loc QkvRefIdeal.main_arg3) = m ((c : Thread QkvIdeal.nD QkvIdeal.τ).loc QkvIdeal.main_arg3))
    (h4 : m' ((c : Thread QkvRefIdeal.nD QkvRefIdeal.τ).loc QkvRefIdeal.main_arg4) = m ((c : Thread QkvIdeal.nD QkvIdeal.τ).loc QkvIdeal.main_arg4))
    (h5 : m' ((c : Thread QkvRefIdeal.nD QkvRefIdeal.τ).loc QkvRefIdeal.main_arg5) = m ((c : Thread QkvIdeal.nD QkvIdeal.τ).loc QkvIdeal.main_arg5))
    (h6 : m' ((c : Thread QkvRefIdeal.nD QkvRefIdeal.τ).loc QkvRefIdeal.main_arg6) = m ((c : Thread QkvIdeal.nD QkvIdeal.τ).loc QkvIdeal.main_arg6))
    (r : Fin 4096) (n : Fin 18432) : QkvRefIdeal.RefValue.lin0 m' c r n = QkvIdeal.RefValue.linAt m c r n := by
  simp only [QkvRefIdeal.RefValue.lin0, QkvIdeal.RefValue.linAt, h0, h1, h2, h3, h4, h5, h6]
  exact (Spec.lin_lane _ _ _ _ _ _ _ r _ _ _ (rows m h c r _)).symm

/-- `Cert.algebraic_QkvIdeal_QkvRefIdeal_pre_qkv_rows_constant`: both programs run and leave equal heads. -/
theorem algebraic : algebraic_QkvIdeal_QkvRefIdeal_pre_qkv_rows_constant (hQkvIdeal := QkvIdeal.Gen.facts) (hQkvRefIdeal := QkvRefIdeal.Gen.facts)
    (hPre_qkv_rows_constant := Pre_qkv_rows_constant.Gen.facts) := by
  intro m g m' g' hpre hagree
  refine ⟨fun c => QkvIdeal.RefValue.result m c, ?_, ?_⟩
  · refine (θ_run _ _ _).mono (fun r h c => ?_) (QkvIdeal.Value.run_blocks m g)
    obtain ⟨a, hr⟩ := h c
    exact ⟨a.trans (QkvIdeal.RefValue.final_10 m c), hr⟩
  · refine (θ_run _ _ _).mono (fun r h c => ?_) (QkvRefIdeal.Value.run_blocks m' g')
    obtain ⟨a, hr⟩ := h c
    obtain ⟨h0, h1, h2, h3, h4, h5, h6, h7, h8, h9, h10⟩ := hagree c
    have e := lin_eq m m' hpre c h0 h1 h2 h3 h4 h5 h6
    refine ⟨a.trans ((QkvRefIdeal.RefValue.final_11 m' c).trans ?_), hr⟩
    funext y
    simp only [QkvRefIdeal.RefValue.result, QkvIdeal.RefValue.result, QkvIdeal.RefValue.out]
    refine Spec.qkv_congr (funext (e (y 0))) ?_ ?_ ?_ ?_ _
    · funext x
      simp only [QkvRefIdeal.RefValue.gq0, QkvIdeal.RefValue.gq, h7]
    · funext x
      simp only [QkvRefIdeal.RefValue.gk0, QkvIdeal.RefValue.gk, h8]
    · funext x
      simp only [QkvRefIdeal.RefValue.cos0, QkvIdeal.RefValue.cosAt, h9]
    · funext x
      simp only [QkvRefIdeal.RefValue.sin0, QkvIdeal.RefValue.sinAt, h10]

end Cert.QkvEq

end
-- ==== Proof.lean ====
/- Every claim of this certificate: the frames, the rewrites that keep the program, and the equations with the references. -/
module

public import proofs.«01_k».proof.Defs
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.MlpRefIdeal.Frame
public import proofs.«01_k».proof.Proof.Gen.NormQuant
public import proofs.«01_k».proof.Proof.Gen.NormQuant.Frame
public import proofs.«01_k».proof.Proof.Gen.NormQuantIdeal
public import proofs.«01_k».proof.Proof.Gen.NormQuantIdeal.Frame
public import proofs.«01_k».proof.Proof.Gen.NormQuantIdeal.Value
public import proofs.«01_k».proof.Proof.Gen.NormQuantRefIdeal
public import proofs.«01_k».proof.Proof.Gen.NormQuantRefIdeal.Frame
public import proofs.«01_k».proof.Proof.Gen.NormQuantRefIdeal.Value
public import proofs.«01_k».proof.Proof.Gen.Pre_qkv_rows_constant
public import proofs.«01_k».proof.Proof.Gen.Pre_rows_constant
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.QkvRefIdeal.Frame
public import proofs.«01_k».proof.Proof.MlpEq
public import proofs.«01_k».proof.Proof.NormQuantEq
public import proofs.«01_k».proof.Proof.QkvEq
public import Idealize.ShloMosaic.Adequacy
public import Idealize.ShloMosaic.Init

@[expose] public section

noncomputable section

namespace Cert.Proof

open Idealize.ShloMosaic Idealize.SL.Sem

/-- All the claims, each by the theorem that states it. -/
theorem claim : Cert.Claim :=
  ⟨Cert.Mlp.Gen.facts, Cert.MlpIdeal.Gen.facts, Cert.MlpRefIdeal.Gen.facts, Cert.Qkv.Gen.facts, Cert.QkvIdeal.Gen.facts, Cert.QkvRefIdeal.Gen.facts, Cert.NormQuant.Gen.facts, Cert.NormQuantIdeal.Gen.facts, Cert.NormQuantRefIdeal.Gen.facts, Cert.Attention.Gen.facts, Cert.AttentionIdeal.Gen.facts, Cert.Pre_rows_constant.Gen.facts, Cert.Pre_qkv_rows_constant.Gen.facts,
    (fun m ρ _ => Cert.Mlp.Gen.frame m ρ),
    (fun m ρ _ => Cert.MlpIdeal.Gen.frame m ρ),
    (fun m ρ _ => Cert.MlpIdeal.Gen.frame m ρ),
    (fun m ρ _ => Cert.MlpRefIdeal.Gen.frame m ρ),
    (fun m ρ _ => Cert.MlpRefIdeal.Gen.frame m ρ),
    (fun m ρ _ => Cert.Qkv.Gen.frame m ρ),
    (fun m ρ _ => Cert.QkvIdeal.Gen.frame m ρ),
    (fun m ρ _ => Cert.QkvIdeal.Gen.frame m ρ),
    (fun m ρ _ => Cert.QkvRefIdeal.Gen.frame m ρ),
    (fun m ρ _ => Cert.QkvRefIdeal.Gen.frame m ρ),
    (fun m ρ _ => Cert.NormQuant.Gen.frame m ρ),
    (fun m ρ _ => Cert.NormQuantIdeal.Gen.frame m ρ),
    (fun m ρ _ => Cert.NormQuantRefIdeal.Gen.frame m ρ),
    (fun m ρ _ => Cert.Attention.Gen.frame m ρ),
    (fun m ρ _ => Cert.AttentionIdeal.Gen.frame m ρ),
    trivial,
    trivial,
    ⟨IdealRules.named_const.statement NormQuantIdeal.κ "inv_6144" .f32 0x392AAAAB#32 _ rfl,
    IdealRules.named_const.statement NormQuantIdeal.κ "inv_448" .f32 0x3B124925#32 _ rfl⟩,
    ⟨IdealRules.named_const.statement AttentionIdeal.κ "to_log2" .f32 0x3E0293EE#32 _ rfl, IdealRules.named_const.statement AttentionIdeal.κ "from_log2" .f32 0x40FAF233#32 _ rfl⟩,
    MlpEq.algebraic,
    QkvEq.algebraic,
    NormQuantEq.algebraic⟩

end Cert.Proof

end
